-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x50 : Shape := ⟨2, ![1024, 50]⟩
abbrev S100000x128 : Shape := ⟨2, ![100000, 128]⟩
abbrev S2048x128 : Shape := ⟨2, ![2048, 128]⟩
abbrev S2048x512 : Shape := ⟨2, ![2048, 512]⟩
abbrev S2048 : Shape := ⟨1, ![2048]⟩
abbrev S3x512 : Shape := ⟨2, ![3, 512]⟩
abbrev S3 : Shape := ⟨1, ![3]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) (main_arg1 : FVec F S100000x128 .f32) (main_arg2 : FVec F S2048x128 .f32) (main_arg3 : FVec F S2048x512 .f32) (main_arg4 : FVec F S2048 .f32) (main_arg5 : FVec F S2048 .f32) (main_arg6 : FVec F S3x512 .f32) (main_arg7 : FVec F S3 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 100000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Kernel.lean ====
abbrev S1024x50 : Shape := ⟨2, ![1024, 50]⟩
abbrev S100000x128 : Shape := ⟨2, ![100000, 128]⟩
abbrev S2048x128 : Shape := ⟨2, ![2048, 128]⟩
abbrev S2048x512 : Shape := ⟨2, ![2048, 512]⟩
abbrev S2048 : Shape := ⟨1, ![2048]⟩
abbrev S3x512 : Shape := ⟨2, ![3, 512]⟩
abbrev S3 : Shape := ⟨1, ![3]⟩
abbrev S50x1024 : Shape := ⟨2, ![50, 1024]⟩
abbrev S51200 : Shape := ⟨1, ![51200]⟩
abbrev S32x20x80 : Shape := ⟨3, ![32, 20, 80]⟩
abbrev S51200x128 : Shape := ⟨2, ![51200, 128]⟩
abbrev S20x80 : Shape := ⟨2, ![20, 80]⟩
abbrev S80x128 : Shape := ⟨2, ![80, 128]⟩
abbrev S_ : Shape := ⟨0, ![]⟩
abbrev S1x20x80 : Shape := ⟨3, ![1, 20, 80]⟩
abbrev S1x80 : Shape := ⟨2, ![1, 80]⟩
abbrev S80 : Shape := ⟨1, ![80]⟩
abbrev S50x1024x128 : Shape := ⟨3, ![50, 1024, 128]⟩
abbrev S128x2048 : Shape := ⟨2, ![128, 2048]⟩
abbrev S512x2048 : Shape := ⟨2, ![512, 2048]⟩
abbrev S640x2048 : Shape := ⟨2, ![640, 2048]⟩
abbrev S1x2048 : Shape := ⟨2, ![1, 2048]⟩
abbrev S512x128 : Shape := ⟨2, ![512, 128]⟩
abbrev S512x3 : Shape := ⟨2, ![512, 3]⟩
abbrev S1 : Shape := ⟨1, ![1]⟩
abbrev S1x128 : Shape := ⟨2, ![1, 128]⟩
abbrev S1x3 : Shape := ⟨2, ![1, 3]⟩
abbrev S1024x128 : Shape := ⟨2, ![1024, 128]⟩
abbrev S1x1024x128 : Shape := ⟨3, ![1, 1024, 128]⟩
abbrev S1024x640 : Shape := ⟨2, ![1024, 640]⟩
abbrev S1024x512 : Shape := ⟨2, ![1024, 512]⟩
abbrev S1024x2048 : Shape := ⟨2, ![1024, 2048]⟩
abbrev S1x512 : Shape := ⟨2, ![1, 512]⟩
abbrev S1024x3 : Shape := ⟨2, ![1024, 3]⟩

abbrev nBuf : Table → Nat
  | .hbm => 34
  | .local .tc .vmem => 9
  | .local .scVector .vmem => 5
  | _ => 0

abbrev bufTy : (tb : Table) → Fin (nBuf tb) → BufTy
  | .hbm, ⟨0, _⟩ => ⟨S1024x50, .i32⟩
  | .hbm, ⟨1, _⟩ => ⟨S100000x128, .f32⟩
  | .hbm, ⟨2, _⟩ => ⟨S2048x128, .f32⟩
  | .hbm, ⟨3, _⟩ => ⟨S2048x512, .f32⟩
  | .hbm, ⟨4, _⟩ => ⟨S2048, .f32⟩
  | .hbm, ⟨5, _⟩ => ⟨S2048, .f32⟩
  | .hbm, ⟨6, _⟩ => ⟨S3x512, .f32⟩
  | .hbm, ⟨7, _⟩ => ⟨S3, .f32⟩
  | .hbm, ⟨8, _⟩ => ⟨S50x1024, .i32⟩
  | .hbm, ⟨9, _⟩ => ⟨S51200, .i32⟩
  | .hbm, ⟨10, _⟩ => ⟨S32x20x80, .i32⟩
  | .hbm, ⟨11, _⟩ => ⟨S51200x128, .f32⟩
  | .hbm, ⟨12, _⟩ => ⟨S50x1024x128, .f32⟩
  | .hbm, ⟨13, _⟩ => ⟨S128x2048, .f32⟩
  | .hbm, ⟨14, _⟩ => ⟨S512x2048, .f32⟩
  | .hbm, ⟨15, _⟩ => ⟨S640x2048, .f32⟩
  | .hbm, ⟨16, _⟩ => ⟨S2048, .f32⟩
  | .hbm, ⟨17, _⟩ => ⟨S1x2048, .f32⟩
  | .hbm, ⟨18, _⟩ => ⟨S_, .f32⟩
  | .hbm, ⟨19, _⟩ => ⟨S512x128, .f32⟩
  | .hbm, ⟨20, _⟩ => ⟨S512x3, .f32⟩
  | .hbm, ⟨21, _⟩ => ⟨S_, .i32⟩
  | .hbm, ⟨22, _⟩ => ⟨S1, .i32⟩
  | .hbm, ⟨23, _⟩ => ⟨S512x128, .f32⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S1x3, .f32⟩
  | .hbm, ⟨29, _⟩ => ⟨S1x128, .f32⟩
  | .hbm, ⟨30, _⟩ => ⟨S640x2048, .bf16⟩
  | .hbm, ⟨31, _⟩ => ⟨S512x128, .bf16⟩
  | .hbm, ⟨32, _⟩ => ⟨S1024x128, .f32⟩
  | .hbm, ⟨33, _⟩ => ⟨S1024x3, .f32⟩
  | .local .tc .vmem, ⟨0, _⟩ => ⟨S1x1024x128, .f32⟩
  | .local .tc .vmem, ⟨1, _⟩ => ⟨S1x1024x128, .f32⟩
  | .local .tc .vmem, ⟨2, _⟩ => ⟨S640x2048, .bf16⟩
  | .local .tc .vmem, ⟨3, _⟩ => ⟨S1x2048, .f32⟩
  | .local .tc .vmem, ⟨4, _⟩ => ⟨S512x128, .bf16⟩
  | .local .tc .vmem, ⟨5, _⟩ => ⟨S1x128, .f32⟩
  | .local .tc .vmem, ⟨6, _⟩ => ⟨S1024x128, .f32⟩
  | .local .tc .vmem, ⟨7, _⟩ => ⟨S1024x640, .bf16⟩
  | .local .tc .vmem, ⟨8, _⟩ => ⟨S1024x512, .f32⟩
  | .local .scVector .vmem, ⟨0, _⟩ => ⟨S20x80, .i32⟩
  | .local .scVector .vmem, ⟨1, _⟩ => ⟨S80x128, .f32⟩
  | .local .scVector .vmem, ⟨2, _⟩ => ⟨S80x128, .f32⟩
  | .local .scVector .vmem, ⟨3, _⟩ => ⟨S80x128, .f32⟩
  | .local .scVector .vmem, ⟨4, _⟩ => ⟨S80x128, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v2_scv : Ref sig .scVector := ⟨.hbm, 10, rfl⟩
abbrev main_arg1_scv : Ref sig .scVector := ⟨.hbm, 1, rfl⟩
abbrev main_v3_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_scratch0 : Ref sig .tc := ⟨.vmem, 7, rfl⟩
abbrev cc1_scratch1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_222_r0 : BitVec 32 := 0#32
  let c0_i32_223_r0 : BitVec 32 := 0#32
  ![v1.toNat, 0, 0]
def k0_off2 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v15 : BitVec 32 := Scalar.addi v2 c0_i32_14
  let c0_i32_15 : BitVec 32 := 0#32
  ![v15.toNat, 0]
abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v66 : BitVec 1 := Scalar.cmpi .eq arg0 c49_i32
  let v67 : BitVec 32 := Scalar.extui v66
  let c0_i32_25 : BitVec 32 := 0#32
  let v68 : BitVec 1 := Scalar.cmpi .ne v67 c0_i32_25
  v68

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S640x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50 : Shape := ⟨2, ![1024, 50]⟩
abbrev S100000x128 : Shape := ⟨2, ![100000, 128]⟩
abbrev S2048x128 : Shape := ⟨2, ![2048, 128]⟩
abbrev S2048x512 : Shape := ⟨2, ![2048, 512]⟩
abbrev S2048 : Shape := ⟨1, ![2048]⟩
abbrev S3x512 : Shape := ⟨2, ![3, 512]⟩
abbrev S3 : Shape := ⟨1, ![3]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x128 : Shape := ⟨3, ![1024, 50, 128]⟩
abbrev S1024x512 : Shape := ⟨2, ![1024, 512]⟩
abbrev S50x1024x128 : Shape := ⟨3, ![50, 1024, 128]⟩
abbrev S1x1024x128 : Shape := ⟨3, ![1, 1024, 128]⟩
abbrev S1024x128 : Shape := ⟨2, ![1024, 128]⟩
abbrev S128x2048 : Shape := ⟨2, ![128, 2048]⟩
abbrev S1024x2048 : Shape := ⟨2, ![1024, 2048]⟩
abbrev S512x2048 : Shape := ⟨2, ![512, 2048]⟩
abbrev S1x2048 : Shape := ⟨2, ![1, 2048]⟩
abbrev S512x3 : Shape := ⟨2, ![512, 3]⟩
abbrev S1024x3 : Shape := ⟨2, ![1024, 3]⟩
abbrev S1x3 : Shape := ⟨2, ![1, 3]⟩

abbrev nBuf : Space → Nat
  | .hbm => 103
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S100000x128, .f32⟩
  | .hbm, ⟨2, _⟩ => ⟨S2048x128, .f32⟩
  | .hbm, ⟨3, _⟩ => ⟨S2048x512, .f32⟩
  | .hbm, ⟨4, _⟩ => ⟨S2048, .f32⟩
  | .hbm, ⟨5, _⟩ => ⟨S2048, .f32⟩
  | .hbm, ⟨6, _⟩ => ⟨S3x512, .f32⟩
  | .hbm, ⟨7, _⟩ => ⟨S3, .f32⟩
  | .hbm, ⟨8, _⟩ => ⟨S_, .i32⟩
  | .hbm, ⟨9, _⟩ => ⟨S1024x50, .i32⟩
  | .hbm, ⟨10, _⟩ => ⟨S1024x50, .i1⟩
  | .hbm, ⟨11, _⟩ => ⟨S_, .i32⟩
  | .hbm, ⟨12, _⟩ => ⟨S1024x50, .i32⟩
  | .hbm, ⟨13, _⟩ => ⟨S1024x50, .i32⟩
  | .hbm, ⟨14, _⟩ => ⟨S1024x50, .i32⟩
  | .hbm, ⟨15, _⟩ => ⟨S1024x50x1, .i32⟩
  | .hbm, ⟨16, _⟩ => ⟨S1, .i32⟩
  | .hbm, ⟨17, _⟩ => ⟨S_, .i32⟩
  | .hbm, ⟨18, _⟩ => ⟨S1024x50x1, .i32⟩
  | .hbm, ⟨19, _⟩ => ⟨S1024x50x1, .i1⟩
  | .hbm, ⟨20, _⟩ => ⟨S1x1x1, .i32⟩
  | .hbm, ⟨21, _⟩ => ⟨S1024x50x1, .i32⟩
  | .hbm, ⟨22, _⟩ => ⟨S1024x50x1, .i1⟩
  | .hbm, ⟨23, _⟩ => ⟨S1024x50x1, .i1⟩
  | .hbm, ⟨24, _⟩ => ⟨S_, .i1⟩
  | .hbm, ⟨25, _⟩ => ⟨S1024x50, .i1⟩
  | .hbm, ⟨26, _⟩ => ⟨S1024x50x128, .f32⟩
  | .hbm, ⟨27, _⟩ => ⟨S1024x50x128, .i1⟩
  | .hbm, ⟨28, _⟩ => ⟨S_, .f32⟩
  | .hbm, ⟨29, _⟩ => ⟨S1024x50x128, .f32⟩
  | .hbm, ⟨30, _⟩ => ⟨S1024x50x128, .f32⟩
  | .hbm, ⟨31, _⟩ => ⟨S_, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S50x1024x128, .f32⟩
  | .hbm, ⟨36, _⟩ => ⟨S_, .i32⟩
  | .hbm, ⟨37, _⟩ => ⟨S50x1024x128, .f32⟩
  | .hbm, ⟨38, _⟩ => ⟨S2048x128, .f32⟩
  | .hbm, ⟨39, _⟩ => ⟨S2048x512, .f32⟩
  | .hbm, ⟨40, _⟩ => ⟨S2048, .f32⟩
  | .hbm, ⟨41, _⟩ => ⟨S2048, .f32⟩
  | .hbm, ⟨42, _⟩ => ⟨S_, .i32⟩
  | .hbm, ⟨43, _⟩ => ⟨S1024x512, .f32⟩
  | .hbm, ⟨44, _⟩ => ⟨S1024x512, .f32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S1x1024x128, .f32⟩
  | .hbm, ⟨50, _⟩ => ⟨S1024x128, .f32⟩
  | .hbm, ⟨51, _⟩ => ⟨S128x2048, .f32⟩
  | .hbm, ⟨52, _⟩ => ⟨S1024x2048, .f32⟩
  | .hbm, ⟨53, _⟩ => ⟨S512x2048, .f32⟩
  | .hbm, ⟨54, _⟩ => ⟨S1024x2048, .f32⟩
  | .hbm, ⟨55, _⟩ => ⟨S1024x2048, .f32⟩
  | .hbm, ⟨56, _⟩ => ⟨S1x2048, .f32⟩
  | .hbm, ⟨57, _⟩ => ⟨S1024x2048, .f32⟩
  | .hbm, ⟨58, _⟩ => ⟨S1024x2048, .f32⟩
  | .hbm, ⟨59, _⟩ => ⟨S1x2048, .f32⟩
  | .hbm, ⟨60, _⟩ => ⟨S1024x2048, .f32⟩
  | .hbm, ⟨61, _⟩ => ⟨S1024x2048, .f32⟩
  | .hbm, ⟨62, _⟩ => ⟨S1024x512, .f32⟩
  | .hbm, ⟨63, _⟩ => ⟨S1024x512, .f32⟩
  | .hbm, ⟨64, _⟩ => ⟨S1024x512, .f32⟩
  | .hbm, ⟨65, _⟩ => ⟨S1024x512, .f32⟩
  | .hbm, ⟨66, _⟩ => ⟨S1024x512, .f32⟩
  | .hbm, ⟨67, _⟩ => ⟨S1024x512, .f32⟩
  | .hbm, ⟨68, _⟩ => ⟨S_, .f32⟩
  | .hbm, ⟨69, _⟩ => ⟨S1024x512, .f32⟩
  | .hbm, ⟨70, _⟩ => ⟨S1024x512, .f32⟩
  | .hbm, ⟨71, _⟩ => ⟨S_, .f32⟩
  | .hbm, ⟨72, _⟩ => ⟨S1024x512, .f32⟩
  | .hbm, ⟨73, _⟩ => ⟨S1024x512, .f32⟩
  | .hbm, ⟨74, _⟩ => ⟨S1024x512, .f32⟩
  | .hbm, ⟨75, _⟩ => ⟨S1024x512, .f32⟩
  | .hbm, ⟨76, _⟩ => ⟨S_, .f32⟩
  | .hbm, ⟨77, _⟩ => ⟨S1024x512, .f32⟩
  | .hbm, ⟨78, _⟩ => ⟨S1024x512, .f32⟩
  | .hbm, ⟨79, _⟩ => ⟨S_, .f32⟩
  | .hbm, ⟨80, _⟩ => ⟨S1024x512, .f32⟩
  | .hbm, ⟨81, _⟩ => ⟨S1024x512, .f32⟩
  | .hbm, ⟨82, _⟩ => ⟨S1024x512, .f32⟩
  | .hbm, ⟨83, _⟩ => ⟨S1024x512, .f32⟩
  | .hbm, ⟨84, _⟩ => ⟨S1024x512, .f32⟩
  | .hbm, ⟨85, _⟩ => ⟨S_, .f32⟩
  | .hbm, ⟨86, _⟩ => ⟨S1024x512, .f32⟩
  | .hbm, ⟨87, _⟩ => ⟨S1024x512, .f32⟩
  | .hbm, ⟨88, _⟩ => ⟨S_, .f32⟩
  | .hbm, ⟨89, _⟩ => ⟨S1024x512, .f32⟩
  | .hbm, ⟨90, _⟩ => ⟨S1024x512, .f32⟩
  | .hbm, ⟨91, _⟩ => ⟨S1024x512, .f32⟩
  | .hbm, ⟨92, _⟩ => ⟨S1024x512, .f32⟩
  | .hbm, ⟨93, _⟩ => ⟨S1024x512, .f32⟩
  | .hbm, ⟨94, _⟩ => ⟨S1024x512, .f32⟩
  | .hbm, ⟨95, _⟩ => ⟨S1024x512, .f32⟩
  | .hbm, ⟨96, _⟩ => ⟨S_, .i32⟩
  | .hbm, ⟨97, _⟩ => ⟨S_, .i32⟩
  | .hbm, ⟨98, _⟩ => ⟨S512x3, .f32⟩
  | .hbm, ⟨99, _⟩ => ⟨S1024x3, .f32⟩
  | .hbm, ⟨100, _⟩ => ⟨S1x3, .f32⟩
  | .hbm, ⟨101, _⟩ => ⟨S1024x3, .f32⟩
  | .hbm, ⟨102, _⟩ => ⟨S1024x3, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_cst_0 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4_0 : Ref sig .tc := ⟨.hbm, 37, rfl⟩
abbrev main_v4_1 : Ref sig .tc := ⟨.hbm, 38, rfl⟩
abbrev main_v4_2 : Ref sig .tc := ⟨.hbm, 39, rfl⟩
abbrev main_v4_3 : Ref sig .tc := ⟨.hbm, 40, rfl⟩
abbrev main_v4_4 : Ref sig .tc := ⟨.hbm, 41, rfl⟩
abbrev main_v4_5 : Ref sig .tc := ⟨.hbm, 42, rfl⟩
abbrev main_v4_6 : Ref sig .tc := ⟨.hbm, 43, rfl⟩
abbrev main_v4_7 : Ref sig .tc := ⟨.hbm, 44, rfl⟩
abbrev main_while0c_c_8 : Ref sig .tc := ⟨.hbm, 45, rfl⟩
abbrev main_while0c_v10 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_v0 : Ref sig .tc := ⟨.hbm, 49, rfl⟩
abbrev main_while0b_v10 : Ref sig .tc := ⟨.hbm, 50, rfl⟩
abbrev main_while0b_v11 : Ref sig .tc := ⟨.hbm, 51, rfl⟩
abbrev main_while0b_v12 : Ref sig .tc := ⟨.hbm, 52, rfl⟩
abbrev main_while0b_v13 : Ref sig .tc := ⟨.hbm, 53, rfl⟩
abbrev main_while0b_v14 : Ref sig .tc := ⟨.hbm, 54, rfl⟩
abbrev main_while0b_v15 : Ref sig .tc := ⟨.hbm, 55, rfl⟩
abbrev main_while0b_v16 : Ref sig .tc := ⟨.hbm, 56, rfl⟩
abbrev main_while0b_v17 : Ref sig .tc := ⟨.hbm, 57, rfl⟩
abbrev main_while0b_v18 : Ref sig .tc := ⟨.hbm, 58, rfl⟩
abbrev main_while0b_v19 : Ref sig .tc := ⟨.hbm, 59, rfl⟩
abbrev main_while0b_v20 : Ref sig .tc := ⟨.hbm, 60, rfl⟩
abbrev main_while0b_v21 : Ref sig .tc := ⟨.hbm, 61, rfl⟩
abbrev main_while0b_v22 : Ref sig .tc := ⟨.hbm, 62, rfl⟩
abbrev main_while0b_v23 : Ref sig .tc := ⟨.hbm, 63, rfl⟩
abbrev main_while0b_v24 : Ref sig .tc := ⟨.hbm, 64, rfl⟩
abbrev main_while0b_v25 : Ref sig .tc := ⟨.hbm, 65, rfl⟩
abbrev main_while0b_v26 : Ref sig .tc := ⟨.hbm, 66, rfl⟩
abbrev main_while0b_v27 : Ref sig .tc := ⟨.hbm, 67, rfl⟩
abbrev main_while0b_cst_8 : Ref sig .tc := ⟨.hbm, 68, rfl⟩
abbrev main_while0b_v28 : Ref sig .tc := ⟨.hbm, 69, rfl⟩
abbrev main_while0b_v29 : Ref sig .tc := ⟨.hbm, 70, rfl⟩
abbrev main_while0b_cst_9 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_v33 : Ref sig .tc := ⟨.hbm, 75, rfl⟩
abbrev main_while0b_cst_10 : Ref sig .tc := ⟨.hbm, 76, rfl⟩
abbrev main_while0b_v34 : Ref sig .tc := ⟨.hbm, 77, rfl⟩
abbrev main_while0b_v35 : Ref sig .tc := ⟨.hbm, 78, rfl⟩
abbrev main_while0b_cst_11 : Ref sig .tc := ⟨.hbm, 79, rfl⟩
abbrev main_while0b_v36 : Ref sig .tc := ⟨.hbm, 80, rfl⟩
abbrev main_while0b_v37 : Ref sig .tc := ⟨.hbm, 81, rfl⟩
abbrev main_while0b_v38 : Ref sig .tc := ⟨.hbm, 82, rfl⟩
abbrev main_while0b_v39 : Ref sig .tc := ⟨.hbm, 83, rfl⟩
abbrev main_while0b_v40 : Ref sig .tc := ⟨.hbm, 84, rfl⟩
abbrev main_while0b_cst_12 : Ref sig .tc := ⟨.hbm, 85, rfl⟩
abbrev main_while0b_v41 : Ref sig .tc := ⟨.hbm, 86, rfl⟩
abbrev main_while0b_v42 : Ref sig .tc := ⟨.hbm, 87, rfl⟩
abbrev main_while0b_cst_13 : Ref sig .tc := ⟨.hbm, 88, rfl⟩
abbrev main_while0b_v43 : Ref sig .tc := ⟨.hbm, 89, rfl⟩
abbrev main_while0b_v44 : Ref sig .tc := ⟨.hbm, 90, rfl⟩
abbrev main_while0b_v45 : Ref sig .tc := ⟨.hbm, 91, rfl⟩
abbrev main_while0b_v46 : Ref sig .tc := ⟨.hbm, 92, rfl⟩
abbrev main_while0b_v47 : Ref sig .tc := ⟨.hbm, 93, rfl⟩
abbrev main_while0b_v48 : Ref sig .tc := ⟨.hbm, 94, rfl⟩
abbrev main_while0b_v49 : Ref sig .tc := ⟨.hbm, 95, rfl⟩
abbrev main_while0b_c_14 : Ref sig .tc := ⟨.hbm, 96, rfl⟩
abbrev main_while0b_v50 : Ref sig .tc := ⟨.hbm, 97, rfl⟩
abbrev main_v5 : Ref sig .tc := ⟨.hbm, 98, rfl⟩
abbrev main_v6 : Ref sig .tc := ⟨.hbm, 99, rfl⟩
abbrev main_v7 : Ref sig .tc := ⟨.hbm, 100, rfl⟩
abbrev main_v8 : Ref sig .tc := ⟨.hbm, 101, rfl⟩
abbrev main_v9 : Ref sig .tc := ⟨.hbm, 102, rfl⟩

abbrev nD : Nat := 1
abbrev τ : Topo := Topo.v7x

variable {F : FTy → Type} [FloatOps F]

abbrev main_while0_count : Scf.Loop 32 := ⟨0#32, 50#32, 1#32⟩
-- ==== Proof.Range.lean ====
/-
  What the precondition says of the indices: each names a row of the table.
-/
module

public import proofs.«01_k».proof.Defs
public import proofs.«01_k».proof.Proof.Gen.Pre_in_range
public import Idealize.ShloMosaic.Lib.WordCmp

@[expose] public section

noncomputable section

namespace Cert.Proof.Range

open Idealize.ShloMosaic Cert.Pre_in_range Cert.Pre_in_range.Gen

theorem andi_eq_one (a b : BitVec 1) : IntOp.andi a b = 1#1 ↔ a = 1#1 ∧ b = 1#1 := by
  revert a b; decide

/-- A conjunction of a list of bits is one exactly if every bit is. -/
theorem foldl_andi {α : Type} (g : α → BitVec 1) (l : List α) (r : BitVec 1) :
    l.foldl (fun r n => IntOp.andi r (g n)) r = 1#1 ↔ r = 1#1 ∧ ∀ n ∈ l, g n = 1#1 := by
  induction l generalizing r with
  | nil => simp
  | cons n l ih => rw [List.foldl_cons, ih, andi_eq_one]; simp [and_assoc]

/-- A word that is signed non-negative and below 100000 is its own value, below 100000. -/
theorem word_lt (v : BitVec 32) (h : IntOp.andi (IntOp.cmpi .sge v 0#32) (IntOp.cmpi .slt v 100000#32) = 1#1) : v.toNat < 100000 := by
  have ofBool_eq_one (p : Bool) : (BitVec.ofBool p = 1#1) ↔ p = true := by cases p <;> decide
  rw [andi_eq_one] at h
  simp only [IntOp.cmpi, ofBool_eq_one, BitVec.sle_eq_decide, BitVec.slt_eq_decide, decide_eq_true_eq, BitVec.toInt_eq_toNat_cond,
    BitVec.toNat_ofNat, Nat.reducePow, Nat.reduceMod] at h
  omega

/-- Under the precondition every index names a row of the table. -/
theorem of_fn {F : FTy → Type} [FloatOps F] (x0 : IVec S1024x50 32) (x1 : FVec F S100000x128 .f32) (x2 : FVec F S2048x128 .f32)
    (x3 : FVec F S2048x512 .f32) (x4 x5 : FVec F S2048 .f32) (x6 : FVec F S3x512 .f32) (x7 : FVec F S3 .f32)
    (h : Cert.Pre_in_range.fn x0 x1 x2 x3 x4 x5 x6 x7 = fun _ => 1#1) (i : S1024x50.Idx) : (x0 i).toNat < 100000 := by
  have e := congrFun h (fun a => a.elim0)
  simp only [Cert.Pre_in_range.fn, Host.reduce] at e
  have e' := ((foldl_andi _ _ _).1 e).2 (S1024x50.rowMajor i) (List.mem_filter.mpr ⟨List.mem_finRange _, by
    simp only [decide_eq_true_eq]; exact funext fun a => a.elim0⟩)
  rw [Equiv.symm_apply_apply] at e'
  exact word_lt _ e'

end Cert.Proof.Range

end
-- ==== Proof.KI.Base.lean ====
/-
  The set-up of the SparseCore launch: the program as the launch theorem sees it, the ghost state of the proof (the
  handshakes' rounds, the pipeline's rounds and the transfers' counters), the buffers of the gather call with the pieces
  each tile is given, and what the handshakes carry.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the pallas_calls. -/
abbrev ΛP : Labels := Pipeline.Sig Λ₀ (Fin 1) fun p => (pcfgs (F := F) p).Adm
/-- The SparseCore calls. -/
abbrev K : SparseCore.Cfg τ sig (ΛP (F := F)) 1 := sc (F := F)
/-- The gather call runs on both SparseCores. -/
theorem nCore_zero : (K (F := F)).nCore 0 = 2 := rfl
/-- It runs on all 16 tiles of each. -/
theorem nSub_zero : (K (F := F)).nSub 0 = 16 := rfl
/-- The program's definitions below the SparseCore's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch decides of the call's semaphores and shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the first factor. -/
abbrev EH : Emb UH (MT nD τ sig (HIx 1) (Elt F) ℕ UU ℕ) := embL

/-! ## The buffers of the gather call -/

abbrev iLoc (d : Dev nD) : Loc nD τ sig := (SparseCore.T d).loc main_v2
abbrev xLoc (d : Dev nD) : Loc nD τ sig := (SparseCore.T d).loc main_arg1
abbrev oLoc (d : Dev nD) : Loc nD τ sig := (SparseCore.T d).loc main_v3

local notation "iV" => (Memref.whole Cert.KernelIdeal.main_v2_scv : Memref Cert.KernelIdeal.sig Kind.scVector Space.hbm Cert.KernelIdeal.S32x20x80 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v3_scv : Memref Cert.KernelIdeal.sig Kind.scVector Space.hbm Cert.KernelIdeal.S51200x128 EltTy.f32)
local notation "lV" => (Memref.whole Cert.KernelIdeal.cc0_scratch0 : Memref Cert.KernelIdeal.sig Kind.scVector Space.vmem Cert.KernelIdeal.S20x80 EltTy.i32)

/-- The contents at the call: the row numbers, the table, the output before. -/
structure Inp (F : FTy → Type) where
  I : (d : Dev nD) → Buf (Elt F) (iLoc d)
  X : (d : Dev nD) → Buf (Elt F) (xLoc d)
  O : (d : Dev nD) → Buf (Elt F) (oLoc d)

/-- An index of the row-number array from its three coordinates. -/
def i3 (w : Fin 32) (r : Fin 20) (k : Fin 80) : S32x20x80.Idx
  | 0 => w
  | 1 => r
  | 2 => k

/-- An index of the table: the row a word names, column `l`. -/
def xix (v : BitVec 32) (l : Fin 128) : S100000x128.Idx
  | 0 => ⟨v.toNat % 100000, Nat.mod_lt _ (by decide)⟩
  | 1 => l

/-- Row `n` of the gathered array, `n = 1600 w + 80 r + k`, has its row number at `(w, r, k)`. -/
def i3of (n : Fin 51200) : S32x20x80.Idx :=
  i3 ⟨n.val / 1600, by omega⟩ ⟨n.val % 1600 / 80, by omega⟩ ⟨n.val % 80, by omega⟩

/-- The array the call leaves: row `n` is the table's row that the `n`-th row number names. -/
def G (a : Inp F) (d : Dev nD) : Buf (Elt F) (oLoc d) := fun (p : S51200x128.Idx) => a.X d (xix (a.I d (i3of (p 0))) (p 1))

/-- Every row number is a row of the table. -/
def InOK (a : Inp F) : Prop := ∀ (d : Dev nD) (j : S32x20x80.Idx), (a.I d j : BitVec 32).toNat < 100000

/-! ## The pieces -/

theorem idiv : 32 ∣ S32x20x80.size 0 := ⟨1, rfl⟩
theorem odiv : 640 ∣ S51200x128.size 0 := ⟨80, rfl⟩
abbrev irow (w : Fin 32) : Rect S32x20x80 := Rect.part (s := S32x20x80) (a₀ := 0) idiv w
abbrev oblk (k : Fin 640) : Rect S51200x128 := Rect.part (s := S51200x128) (a₀ := 0) odiv k
abbrev iSet (w : Fin 32) : Finset S32x20x80.Idx := ((iV).view.slice (irow w)).set
abbrev oSet (k : Fin 640) : Finset S51200x128.Idx := ((oV).view.slice (oblk k)).set

/-- Chunk `r` of task `w` among the 640 chunks of the output. -/
def chunk (w : Fin 32) (r : Fin 20) : Fin 640 := ⟨20 * w.val + r.val, by omega⟩
/-- The task of tile `s` on SparseCore `c`. -/
def task (c : Fin 2) (s : Fin 16) : Fin 32 := ⟨2 * s.val + c.val, by omega⟩

/-- Task `w`'s share of the table: one of the 32 leaves of five halvings. -/
abbrev xq (w : Fin 32) : PosShare TreeShare := ShareLeaves.leaf 5 fullShare w

abbrev iPts (a : Inp F) (d : Dev nD) (w : Fin 32) : sProp 𝕄 := iLoc d ↦[iSet w]{fullShare} a.I d
abbrev xPts (a : Inp F) (d : Dev nD) (w : Fin 32) : sProp 𝕄 := xLoc d ↦{xq w} a.X d
abbrev oPts (d : Dev nD) (f : Buf (Elt F) (oLoc d)) (w : Fin 32) : sProp 𝕄 :=
  bigSep Finset.univ fun r : Fin 20 => oLoc d ↦[oSet (chunk w r)]{fullShare} f

/-- What task `w` is handed, and what it brings back. -/
abbrev goP (a : Inp F) (d : Dev nD) (w : Fin 32) : sProp 𝕄 := iprop(iPts a d w ∗ xPts a d w ∗ oPts d (a.O d) w)
abbrev tdP (a : Inp F) (d : Dev nD) (w : Fin 32) : sProp 𝕄 := iprop(iPts a d w ∗ xPts a d w ∗ oPts d (G a d) w)

/-- A SparseCore is handed its sixteen tasks' pieces and brings them back. -/
def P (a : Inp F) : (K (F := F)).Pay (nD := nD) (Val := Elt F) (Name := ℕ) (U := UU) where
  st := fun q d c => match q with | 0 => bigSep Finset.univ fun s : Fin ((K (F := F)).nSub 0) => goP a d (task (Fin.cast nCore_zero c) (Fin.cast nSub_zero s))
  dn := fun q d c => match q with | 0 => bigSep Finset.univ fun s : Fin ((K (F := F)).nSub 0) => tdP a d (task (Fin.cast nCore_zero c) (Fin.cast nSub_zero s))
  go := fun q d c s => match q with | 0 => goP a d (task (Fin.cast nCore_zero c) (Fin.cast nSub_zero s))
  td := fun q d c s => match q with | 0 => tdP a d (task (Fin.cast nCore_zero c) (Fin.cast nSub_zero s))
  x := fun _ _ => iprop(emp)

instance P_storable (a : Inp F) : (P (F := F) a).IsStorable where
  st q d c := match q with
    | 0 => (inferInstance : BI.Storable (upEmb : UEmb _ 𝕄) (bigSep Finset.univ fun s : Fin ((K (F := F)).nSub 0) => goP a d (task (Fin.cast nCore_zero c) (Fin.cast nSub_zero s))))
  dn q d c := match q with
    | 0 => (inferInstance : BI.Storable (upEmb : UEmb _ 𝕄) (bigSep Finset.univ fun s : Fin ((K (F := F)).nSub 0) => tdP a d (task (Fin.cast nCore_zero c) (Fin.cast nSub_zero s))))
  go q d c s := match q with
    | 0 => (inferInstance : BI.Storable (upEmb : UEmb _ 𝕄) (goP a d (task (Fin.cast nCore_zero c) (Fin.cast nSub_zero s))))
  td q d c s := match q with
    | 0 => (inferInstance : BI.Storable (upEmb : UEmb _ 𝕄) (tdP a d (task (Fin.cast nCore_zero c) (Fin.cast nSub_zero s))))

/-- A SparseCore's start splits into its tasks' and their ends join into its end: both are the same pieces. -/
theorem vecSplit (a : Inp F) : (K (F := F)).VecSplit' (P a) 0 := by
  intro d c
  show (bigSep Finset.univ fun s : Fin ((K (F := F)).nSub 0) => goP a d (task (Fin.cast nCore_zero c) (Fin.cast nSub_zero s))) ⊢ |={Set.univ}=> iprop(
      (bigSep Finset.univ fun s : Fin ((K (F := F)).nSub 0) => goP a d (task (Fin.cast nCore_zero c) (Fin.cast nSub_zero s)))
      ∗ ((bigSep Finset.univ fun s : Fin ((K (F := F)).nSub 0) => tdP a d (task (Fin.cast nCore_zero c) (Fin.cast nSub_zero s)))
          -∗ (bigSep Finset.univ fun s : Fin ((K (F := F)).nSub 0) => tdP a d (task (Fin.cast nCore_zero c) (Fin.cast nSub_zero s)))))
  iintro H; imodintro
  isplitl [H]; · iexact H
  iintro H; iexact H

end Cert.Proof.KI

end
-- ==== Proof.KI.Splits.lean ====
/-
  The gather call's three arrays, split into the 32 tasks' pieces over the two SparseCores and joined from them.
-/
module

public import proofs.«01_k».proof.Proof.KI.Base

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The pieces as sets of elements -/

theorem iSet_eq (w : Fin 32) : iSet w = (irow w).set := by
  show ((View.whole (main_v2_scv : Ref sig .scVector)).slice (irow w)).set = _
  rw [View.set_slice]; exact Finset.map_refl
theorem oSet_eq (k : Fin 640) : oSet k = (oblk k).set := by
  show ((View.whole (main_v3_scv : Ref sig .scVector)).slice (oblk k)).set = _
  rw [View.set_slice]; exact Finset.map_refl
theorem iSets_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem oSets_disjoint : ∀ i ∈ (Finset.univ : Finset (Fin 640)), ∀ j ∈ (Finset.univ : Finset (Fin 640)), i ≠ j → Disjoint (oSet i) (oSet j) :=
  fun i _ j _ h => by rw [oSet_eq, oSet_eq]; exact Rect.part_disjoint odiv h
theorem iSets_cover : (Finset.univ : Finset (Fin 32)).biUnion iSet = Finset.univ :=
  (Finset.biUnion_congr rfl fun i _ => iSet_eq i).trans (Rect.biUnion_part idiv)
theorem oSets_cover : (Finset.univ : Finset (Fin 640)).biUnion oSet = Finset.univ :=
  (Finset.biUnion_congr rfl fun i _ => oSet_eq i).trans (Rect.biUnion_part odiv)

/-! ## Each array is its pieces -/

/-- The row numbers are the 32 tasks' rows. -/
theorem i_tasks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSets_disjoint, iSets_cover]
/-- The table is the 32 tasks' shares of it. -/
theorem x_tasks (d : Dev nD) (f : Buf (Elt F) (xLoc d)) :
    (xLoc d ↦{fullShare} f : sProp 𝕄) = bigSep Finset.univ fun w : Fin 32 => xLoc d ↦{xq w} f :=
  ShareLeaves.pointsTo_leaves Finset.univ f 5 fullShare

/-- A chunk's number from its task and its place there. -/
def chunkEquiv : Fin 32 × Fin 20 ≃ Fin 640 where
  toFun p := chunk p.1 p.2
  invFun k := (⟨k.val / 20, by omega⟩, ⟨k.val % 20, by omega⟩)
  left_inv p := by
    refine Prod.ext (Fin.ext ?_) (Fin.ext ?_)
    · show (20 * p.1.val + p.2.val) / 20 = p.1.val
      have := p.2.isLt; omega
    · show (20 * p.1.val + p.2.val) % 20 = p.2.val
      have := p.2.isLt; omega
  right_inv k := Fin.ext (show 20 * (k.val / 20) + k.val % 20 = k.val by omega)

/-- A task's number from its SparseCore and its tile. -/
def taskEquiv : Fin 2 × Fin 16 ≃ Fin 32 where
  toFun p := task p.1 p.2
  invFun w := (⟨w.val % 2, by omega⟩, ⟨w.val / 2, by omega⟩)
  left_inv p := by
    refine Prod.ext (Fin.ext ?_) (Fin.ext ?_)
    · show (2 * p.2.val + p.1.val) % 2 = p.1.val
      have := p.1.isLt; omega
    · show (2 * p.2.val + p.1.val) / 2 = p.2.val
      have := p.1.isLt; omega
  right_inv w := Fin.ext (show 2 * (w.val / 2) + w.val % 2 = w.val by omega)

/-- The output is the 32 tasks' 20 chunks each. -/
theorem o_tasks (d : Dev nD) (f : Buf (Elt F) (oLoc d)) :
    (oLoc d ↦{fullShare} f : sProp 𝕄) = bigSep Finset.univ fun w : Fin 32 => oPts d f w := by
  have h : (oLoc d ↦{fullShare} f : sProp 𝕄) = bigSep Finset.univ fun k : Fin 640 => oLoc d ↦[oSet k]{fullShare} f := by
    rw [← pointsTo_biUnion Finset.univ (ℓ := oLoc d) oSet oSets_disjoint, oSets_cover]
  rw [h, bigSep_univ_equiv chunkEquiv, bigSep_univ_prod]
  rfl

/-- The tasks over the two SparseCores' tiles. -/
theorem tasks_cores (Φ : Fin 32 → sProp 𝕄) :
    bigSep Finset.univ Φ = bigSep Finset.univ fun c : Fin ((K (F := F)).nCore 0) => bigSep Finset.univ fun s : Fin ((K (F := F)).nSub 0) =>
      Φ (task (Fin.cast nCore_zero c) (Fin.cast nSub_zero s)) := by
  rw [bigSep_univ_equiv taskEquiv, bigSep_univ_prod]
  rfl

/-- What the call's start hands the SparseCores is the three arrays whole. -/
theorem st0_eq (a : Inp F) (d : Dev nD) :
    (bigSep Finset.univ fun c : Fin ((K (F := F)).nCore 0) => (P a).st 0 d c)
      = iprop((iLoc d ↦{fullShare} a.I d) ∗ (xLoc d ↦{fullShare} a.X d) ∗ oLoc d ↦{fullShare} a.O d) := by
  rw [i_tasks, x_tasks, o_tasks, ← bigSep_sep', ← bigSep_sep', tasks_cores]
  rfl

/-- What they bring back is the three arrays whole, the output at the gathered rows. -/
theorem dn0_eq (a : Inp F) (d : Dev nD) :
    (bigSep Finset.univ fun c : Fin ((K (F := F)).nCore 0) => (P a).dn 0 d c)
      = iprop((iLoc d ↦{fullShare} a.I d) ∗ (xLoc d ↦{fullShare} a.X d) ∗ oLoc d ↦{fullShare} G a d) := by
  rw [i_tasks, x_tasks, o_tasks, ← bigSep_sep', ← bigSep_sep', tasks_cores]
  rfl

end Cert.Proof.KI

end
-- ==== Proof.KI.Cell.lean ====
/-
  The LSTM cell's kernel body on one TensorCore: one grid step.
-/
module

public import proofs.«01_k».proof.Proof.KI.Base
public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic
public import Idealize.ShloMosaic.Lib.Pointwise

@[expose] public section

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole. -/
abbrev pt (c : Dev nD) {sp : Space} {S : Shape} {e : EltTy} (M : Memref sig .tc sp S e) (f : Bf (F := F) c M) : sProp 𝕄 :=
  M.view.loc (c : Thread nD τ) ↦{fullShare} f

/-! ## The recurrence -/

/-- The step's left operand: the embedded row beside the hidden state. -/
def cat (xv : FVec F S1024x128 .bf16) (h : FVec F S1024x512 .bf16) : FVec F S1024x640 .bf16 := fun j =>
  if hj : (j 1).val < 128 then xv (ix2 (j 0) ⟨(j 1).val, hj⟩)
  else h (ix2 (j 0) ⟨(j 1).val - 128, by have := (j 1).isLt; change (j 1).val < 640 at this; show _ < 512; omega⟩)

/-- The cell state after a step. -/
def cNext (x : FVec F S1x1024x128 .f32) (w : FVec F S640x2048 .bf16) (b : FVec F S1x2048 .f32) (s : FVec F S1024x512 .bf16 × FVec F S1024x512 .f32) : FVec F S1024x512 .f32 :=
  k1_pay2 (k1_pay8 (cat (k1_pay7 x) s.1) w) (k1_pay9 b) (k1_pay10 (cat (k1_pay7 x) s.1) w b) (k1_pay11 (cat (k1_pay7 x) s.1) w b) s.2
/-- The hidden state after a step. -/
def hNext (x : FVec F S1x1024x128 .f32) (w : FVec F S640x2048 .bf16) (b : FVec F S1x2048 .f32) (s : FVec F S1024x512 .bf16 × FVec F S1024x512 .f32) : FVec F S1024x512 .bf16 :=
  k1_pay3 (k1_pay8 (cat (k1_pay7 x) s.1) w) (k1_pay9 b) (k1_pay10 (cat (k1_pay7 x) s.1) w b) (k1_pay11 (cat (k1_pay7 x) s.1) w b) s.2
/-- The state before the first step. -/
def st0 : FVec F S1024x512 .bf16 × FVec F S1024x512 .f32 := (k1_pay5, k1_pay6)

/-! ## Reads through the scratch buffers -/

/-- The hidden state's columns of the operand buffer. -/
abbrev rH : Rect S1024x640 := Rect.unit (s := S1024x640) ![0, 128] S1024x512.size inb_S1024x640_S1024x512_0_128
/-- The embedded row's columns of the operand buffer. -/
abbrev rX : Rect S1024x640 := Rect.unit (s := S1024x640) ![0, 0] S1024x128.size inb_S1024x640_S1024x128_0_0

theorem zero2 : (![0, 0] : Fin 2 → ℕ) = fun _ => 0 := by funext a; fin_cases a <;> rfl
theorem zero3 : (![0, 0, 0] : Fin 3 → ℕ) = fun _ => 0 := by funext a; fin_cases a <;> rfl

section Reads
variable (c : Dev nD) {sp : Space} {s : Shape} {e : EltTy} (M : Memref sig .tc sp s e)

/-- A load of the whole memref reads what the memref holds. -/
theorem load_whole {off : Fin s.rank → ℕ} (ho : off = fun _ => 0) (hi : ∀ a, off a + s.size a ≤ s.size a) (f : Bf (F := F) c M) :
    View.readAt (Elt F) M.view (Rect.unit (s := s) off s.size hi).toLoadRect f = M.view.read (Elt F) f := by
  funext x
  show M.view.read (Elt F) f _ = M.view.read (Elt F) f x
  congr 1; funext b; apply Fin.ext
  show off b + 1 * (x b).val = (x b).val
  have hb : off b = 0 := congrFun ho b
  omega
/-- After a store of the whole memref it holds what was stored. -/
theorem store_whole {off : Fin s.rank → ℕ} (ho : off = fun _ => 0) (hi : ∀ a, off a + s.size a ≤ s.size a) (f : Bf (F := F) c M)
    (w : s.Idx → Elt F e) (L : List (View.Piece (Elt F) s e)) :
    M.view.read (Elt F) (M.view.writes (Elt F) f (⟨Rect.unit (s := s) off s.size hi, w⟩ :: L)) = w := by
  funext x
  exact View.read_writes_cons_hit_of_coords (Val := Elt F) M.view f (Rect.unit (s := s) off s.size hi) w L x x (fun b => by
    show (x b).val = off b + 1 * (x b).val
    have hb : off b = 0 := congrFun ho b
    omega)
end Reads

/-- The step's test for the first point. -/
abbrev isFirst (i : grid1.Coords) : BitVec 1 :=
  let v0 : BitVec 1 := Scalar.cmpi .eq (BitVec.ofNat 32 (i 0).val) 0#32
  let v1 : BitVec 32 := Scalar.extui v0
  Scalar.cmpi .ne v1 0#32

section Body
variable (c : Dev nD) (i : grid1.Coords)
  (M1 : Memref sig .tc .vmem S1x1024x128 .f32) (h1 : M1.IsWhole) (M2 : Memref sig .tc .vmem S640x2048 .bf16) (h2 : M2.IsWhole)
  (M3 : Memref sig .tc .vmem S1x2048 .f32) (h3 : M3.IsWhole) (M4 : Memref sig .tc .vmem S512x128 .bf16) (h4 : M4.IsWhole)
  (M5 : Memref sig .tc .vmem S1x128 .f32) (h5 : M5.IsWhole) (M6 : Memref sig .tc .vmem S1024x128 .f32) (h6 : M6.IsWhole)
  (M7 : Memref sig .tc .vmem S1024x640 .bf16) (h7 : M7.IsWhole) (M8 : Memref sig .tc .vmem S1024x512 .f32) (h8 : M8.IsWhole)
  (f1 : Bf (F := F) c M1) (f2 : Bf (F := F) c M2) (f3 : Bf (F := F) c M3) (f4 : Bf (F := F) c M4) (f5 : Bf (F := F) c M5) (f6 : Bf (F := F) c M6)
  (f7 : Bf (F := F) c M7) (f8 : Bf (F := F) c M8)

/-- The hidden state the operand buffer holds. -/
abbrev hOf (f : Bf (F := F) c M7) : FVec F S1024x512 .bf16 := View.readAt (Elt F) M7.view rH.toLoadRect f

/-- A hidden state just stored is the one held. -/
theorem hOf_store (w : FVec F S1024x512 .bf16) (L : List (View.Piece (Elt F) S1024x640 .bf16)) :
    hOf c M7 (M7.view.writes (Elt F) f7 (⟨rH, w⟩ :: L)) = w := by
  funext x
  exact View.read_writes_cons_emb (Val := Elt F) M7.view f7 rH w L x

/-- The operand read after the embedded row was stored beside a state. -/
theorem load_cat {hi : ∀ a, (![0, 0] : Fin 2 → ℕ) a + S1024x640.size a ≤ S1024x640.size a} (xv : FVec F S1024x128 .bf16)
    (L : List (View.Piece (Elt F) S1024x640 .bf16)) :
    View.readAt (Elt F) M7.view (Rect.unit (s := S1024x640) ![0, 0] S1024x640.size hi).toLoadRect (M7.view.writes (Elt F) f7 (⟨rX, xv⟩ :: L))
      = cat xv (hOf c M7 (M7.view.writes (Elt F) f7 L)) := by
  rw [load_whole c M7 zero2]
  funext j
  unfold cat
  by_cases hj : (j 1).val < 128
  · rw [dif_pos hj]
    exact View.read_writes_cons_hit_of_coords (Val := Elt F) M7.view f7 rX xv L (ix2 (j 0) ⟨(j 1).val, hj⟩) j (fun b => by
      match b with
      | 0 => show (j 0).val = 0 + 1 * (j 0).val; omega
      | 1 => show (j 1).val = 0 + 1 * (j 1).val; omega)
  · rw [dif_neg hj]
    rw [View.read_writes_cons_miss_of_axis (Val := Elt F) M7.view f7 ⟨rX, xv⟩ L j 1 0 128 rfl rfl rfl (.inr (by omega))]
    show _ = M7.view.read (Elt F) _ _
    congr 1; funext b; apply Fin.ext
    match b with
    | 0 => show (j 0).val = 0 + 1 * (j 0).val; omega
    | 1 => show (j 1).val = 128 + 1 * ((j 1).val - 128); omega

variable (x : FVec F S1x1024x128 .f32) (w : FVec F S640x2048 .bf16) (b : FVec F S1x2048 .f32) (wc : FVec F S512x128 .bf16) (bc : FVec F S1x128 .f32)
  (s : FVec F S1024x512 .bf16 × FVec F S1024x512 .f32)

/-- A step that is neither the first nor the last. -/
theorem mid_run (hi0 : isFirst i ≠ 1#1) (hi1 : k1_cond2 i ≠ 1#1)
    (e1 : M1.view.read (Elt F) f1 = x) (e2 : M2.view.read (Elt F) f2 = w) (e3 : M3.view.read (Elt F) f3 = b)
    (e7 : hOf c M7 f7 = s.1) (e8 : M8.view.read (Elt F) f8 = s.2) (E : Set ℕ) (Q : PUnit → sProp 𝕄) :
  iprop(pt c M1 f1 ∗ pt c M2 f2 ∗ pt c M3 f3 ∗ pt c M4 f4 ∗ pt c M5 f5 ∗ pt c M6 f6 ∗ pt c M7 f7 ∗ pt c M8 f8 ∗
     (∀ g7, ∀ g8, pt c M1 f1 ∗ pt c M2 f2 ∗ pt c M3 f3 ∗ pt c M4 f4 ∗ pt c M5 f5 ∗ pt c M6 f6 ∗ pt c M7 g7 ∗ pt c M8 g8
       ∗ ⌜hOf c M7 g7 = hNext x w b s ∧ M8.view.read (Elt F) g8 = cNext x w b s⌝ -∗ Q ⟨⟩))
   ⊢ wp frame (wpE (defs₀ (F := F)) 𝒱₀ c none) E (cc1__lstm_body i M1 h1 M2 h2 M3 h3 M4 h4 M5 h5 M6 h6 M7 h7 M8 h8) Q := by
  rw [cc1__lstm_body_eq_skeleton]; unfold cc1__lstm_body_skel
  rw [k1_part1_eq_skeleton]; unfold k1_part1_skel
  iintro ⟨H1, H2, H3, H4, H5, H6, H7, H8, Hk⟩
  sl_exec
  sl_step
  iapply Hk $$ %_ %_
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  ipureintro
  refine ⟨(hOf_store c M7 f7 _ _).trans ?_, (store_whole c M8 zero2 _ f8 _ _).trans ?_⟩
  all_goals
    delta mid_run.sl.H7_1
    rw [load_cat, load_whole c M1 zero3, load_whole c M2 zero2, load_whole c M3 zero2, load_whole c M8 zero2, e1, e2, e3, e8]
    rw [show hOf c M7 (M7.view.writes (Elt F) f7 []) = s.1 from e7]
    rfl

/-- The first step, from whatever the scratch buffers hold. -/
theorem first_run (hi0 : isFirst i = 1#1) (hi1 : k1_cond2 i ≠ 1#1)
    (e1 : M1.view.read (Elt F) f1 = x) (e2 : M2.view.read (Elt F) f2 = w) (e3 : M3.view.read (Elt F) f3 = b) (E : Set ℕ) (Q : PUnit → sProp 𝕄) :
  iprop(pt c M1 f1 ∗ pt c M2 f2 ∗ pt c M3 f3 ∗ pt c M4 f4 ∗ pt c M5 f5 ∗ pt c M6 f6 ∗ pt c M7 f7 ∗ pt c M8 f8 ∗
     (∀ g7, ∀ g8, pt c M1 f1 ∗ pt c M2 f2 ∗ pt c M3 f3 ∗ pt c M4 f4 ∗ pt c M5 f5 ∗ pt c M6 f6 ∗ pt c M7 g7 ∗ pt c M8 g8
       ∗ ⌜hOf c M7 g7 = hNext x w b st0 ∧ M8.view.read (Elt F) g8 = cNext x w b st0⌝ -∗ Q ⟨⟩))
   ⊢ wp frame (wpE (defs₀ (F := F)) 𝒱₀ c none) E (cc1__lstm_body i M1 h1 M2 h2 M3 h3 M4 h4 M5 h5 M6 h6 M7 h7 M8 h8) Q := by
  rw [cc1__lstm_body_eq_skeleton]; unfold cc1__lstm_body_skel
  rw [k1_part1_eq_skeleton]; unfold k1_part1_skel
  iintro ⟨H1, H2, H3, H4, H5, H6, H7, H8, Hk⟩
  sl_exec
  sl_step
  iapply Hk $$ %_ %_
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  ipureintro
  have e9 : first_run.sl.v9 (F := F) c M1 M7 f1 = cat (k1_pay7 x) (st0 (F := F)).1 := by
    delta first_run.sl.v9 first_run.sl.H7_2
    refine (load_cat c M7 (View.junk M7.view) _ _).trans ?_
    rw [hOf_store, load_whole c M1 zero3, e1]
    rfl
  have e53 : first_run.sl.v53 (F := F) M8 = (st0 (F := F)).2 := by
    delta first_run.sl.v53 first_run.sl.H8_1
    refine (load_whole c M8 zero2 _ _).trans ?_
    rw [store_whole c M8 zero2]
    rfl
  refine ⟨(hOf_store c M7 f7 _ _).trans ?_, (store_whole c M8 zero2 _ f8 _ _).trans ?_⟩
  all_goals
    rw [e9, e53, load_whole c M2 zero2, load_whole c M3 zero2, e2, e3]
    rfl

/-- The last step, which also leaves the classifier's output. -/
theorem last_run (hi0 : isFirst i ≠ 1#1) (hi1 : k1_cond2 i = 1#1)
    (e1 : M1.view.read (Elt F) f1 = x) (e2 : M2.view.read (Elt F) f2 = w) (e3 : M3.view.read (Elt F) f3 = b)
    (e4 : M4.view.read (Elt F) f4 = wc) (e5 : M5.view.read (Elt F) f5 = bc)
    (e7 : hOf c M7 f7 = s.1) (e8 : M8.view.read (Elt F) f8 = s.2) (E : Set ℕ) (Q : PUnit → sProp 𝕄) :
  iprop(pt c M1 f1 ∗ pt c M2 f2 ∗ pt c M3 f3 ∗ pt c M4 f4 ∗ pt c M5 f5 ∗ pt c M6 f6 ∗ pt c M7 f7 ∗ pt c M8 f8 ∗
     (∀ g6, ∀ g7, ∀ g8, pt c M1 f1 ∗ pt c M2 f2 ∗ pt c M3 f3 ∗ pt c M4 f4 ∗ pt c M5 f5 ∗ pt c M6 g6 ∗ pt c M7 g7 ∗ pt c M8 g8
       ∗ ⌜hOf c M7 g7 = hNext x w b s ∧ M8.view.read (Elt F) g8 = cNext x w b s ∧ M6.view.read (Elt F) g6 = k1_pay4 (hNext x w b s) wc bc⌝ -∗ Q ⟨⟩))
   ⊢ wp frame (wpE (defs₀ (F := F)) 𝒱₀ c none) E (cc1__lstm_body i M1 h1 M2 h2 M3 h3 M4 h4 M5 h5 M6 h6 M7 h7 M8 h8) Q := by
  rw [cc1__lstm_body_eq_skeleton]; unfold cc1__lstm_body_skel
  rw [k1_part1_eq_skeleton]; unfold k1_part1_skel
  iintro ⟨H1, H2, H3, H4, H5, H6, H7, H8, Hk⟩
  sl_exec
  sl_step
  iapply Hk $$ %_ %_ %_
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  ipureintro
  have eH : hOf c M7 (M7.view.writes (Elt F) f7 (last_run.sl.H7_2 c M1 M2 M3 M7 M8 f1 f2 f3 f7 f8)) = hNext x w b s := by
    delta last_run.sl.H7_2
    refine (hOf_store c M7 f7 _ _).trans ?_
    delta last_run.sl.H7_1
    rw [load_cat, load_whole c M1 zero3, load_whole c M2 zero2, load_whole c M3 zero2, load_whole c M8 zero2, e1, e2, e3, e8]
    rw [show hOf c M7 (M7.view.writes (Elt F) f7 []) = s.1 from e7]
    rfl
  refine ⟨eH, (store_whole c M8 zero2 _ f8 _ _).trans ?_, (store_whole c M6 zero2 _ f6 _ _).trans ?_⟩
  · delta last_run.sl.H7_1
    rw [load_cat, load_whole c M1 zero3, load_whole c M2 zero2, load_whole c M3 zero2, load_whole c M8 zero2, e1, e2, e3, e8]
    rw [show hOf c M7 (M7.view.writes (Elt F) f7 []) = s.1 from e7]
    rfl
  · rw [load_whole c M4 zero2, load_whole c M5 zero2, e4, e5]
    delta last_run.sl.v69 last_run.sl.H7_2
    refine congrArg (fun v => k1_pay4 v wc bc) ?_
    refine (hOf_store c M7 (View.junk M7.view) _ _).trans ?_
    delta last_run.sl.H7_1
    rw [load_cat, load_whole c M1 zero3, load_whole c M2 zero2, load_whole c M3 zero2, load_whole c M8 zero2, e1, e2, e3, e8]
    rw [show hOf c M7 (M7.view.writes (Elt F) f7 []) = s.1 from e7]
    rfl

end Body
end Cert.Proof.KI

end
-- ==== Proof.KI.Region.lean ====
/-
  The LSTM call as a pipelined region: what it holds at each grid step, the kernel body's obligation there, and what the
  whole call leaves in its result.
-/
module

public import proofs.«01_k».proof.Proof.KI.Cell
public import Idealize.ShloMosaic.Lib.Pipeline.Regions
public import Idealize.ShloMosaic.Lib.Pipeline.FrameBody
public import Idealize.ShloMosaic.Lib.Pipeline.Value
public import Idealize.ShloMosaic.Lib.Pipeline.ValueKit.Geometry

@[expose] public section

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## The recurrence over the fifty steps -/

/-- The rows the step `n` reads: position `n` of every sequence. -/
def xAt (X : FVec F S50x1024x128 .f32) (n : ℕ) : FVec F S1x1024x128 .f32 := fun j => X (ix3 (Fin.ofNat 50 n) (j 1) (j 2))

/-- The state before step `n`. -/
def Stt (X : FVec F S50x1024x128 .f32) (w : FVec F S640x2048 .bf16) (b : FVec F S1x2048 .f32) : ℕ → FVec F S1024x512 .bf16 × FVec F S1024x512 .f32
  | 0 => st0
  | n + 1 => (hNext (xAt X n) w b (Stt X w b n), cNext (xAt X n) w b (Stt X w b n))

/-- The result of the call: the classifier on the last hidden state. -/
def lstmOut (X : FVec F S50x1024x128 .f32) (w : FVec F S640x2048 .bf16) (b : FVec F S1x2048 .f32) (wc : FVec F S512x128 .bf16) (bc : FVec F S1x128 .f32) :
    FVec F S1024x128 .f32 := k1_pay4 (Stt X w b 50).1 wc bc

/-! ## The grid's points -/

theorem coords_val : ∀ t : Fin grid1.N, (grid1.coords t 0).val = t.val := by decide
theorem index0 : ∀ t : Fin grid1.N, cc1_transform_0 (grid1.coords t) = ![t.val, 0, 0] := by decide
theorem isFirst_iff : ∀ t : Fin grid1.N, isFirst (grid1.coords t) = 1#1 ↔ t.val = 0 := by decide
theorem cond2_iff : ∀ t : Fin grid1.N, k1_cond2 (grid1.coords t) = 1#1 ↔ t.val = 49 := by decide
theorem idle5 : ∀ t : Fin grid1.N, idle1 5 (grid1.coords t) = !decide (t.val = 49) := by decide

/-! ## The proof data -/

variable (V : (c : Dev nD) → (b : Ref sig .tc) → Buf (Elt F) ((c : Thread nD τ).loc b))

abbrev vX (c : Dev nD) : FVec F S50x1024x128 .f32 := V c main_v4
abbrev vW (c : Dev nD) : FVec F S640x2048 .bf16 := V c main_v18
abbrev vB (c : Dev nD) : FVec F S1x2048 .f32 := V c main_v9
abbrev vWc (c : Dev nD) : FVec F S512x128 .bf16 := V c main_v19
abbrev vBc (c : Dev nD) : FVec F S1x128 .f32 := V c main_v17

/-- The state before step `n`, from the arrays at the entry. -/
abbrev sAt (c : Dev nD) (n : ℕ) := Stt (vX V c) (vW V c) (vB V c) n

/-- Between steps the scratch buffers hold the state, once a step has run. -/
def PhiAt (c : Dev nD) (n : ℕ) : sProp 𝕄 :=
  iprop(∃ f7, ∃ f8, pt c (Memref.whole cc1_scratch0) f7 ∗ pt c (Memref.whole cc1_scratch1) f8
    ∗ ⌜0 < n → hOf c (Memref.whole cc1_scratch0) f7 = (sAt V c n).1 ∧ (Memref.whole cc1_scratch1).view.read (Elt F) f8 = (sAt V c n).2⌝)

/-- The wait pairs the TensorCore may have recorded after the SparseCore call. -/
def recd (c : Dev nD) : Set (SemLoc sig × HIx 1) := {p | (K (F := F)).lev ((SparseCore.T c : Thread nD τ), p.1) p.2 ≤ 8}

/-- The proof data of the call entered at the contents `V`. -/
def dat (c : Dev nD) : Dat τ (Elt F) (HIx 1) ℕ UU ℕ cfg1 c where
  A w := V c (Pipeline.arrRef spec1 w)
  after w t := match w with
    | ⟨0, _⟩ => xAt (vX V c) t.val
    | ⟨1, _⟩ => vW V c
    | ⟨2, _⟩ => vB V c
    | ⟨3, _⟩ => vWc V c
    | ⟨4, _⟩ => vBc V c
    | ⟨5, _⟩ => lstmOut (vX V c) (vW V c) (vB V c) (vWc V c) (vBc V c)
  Φ t := PhiAt V c t.val
  q _ := fullShare
  owed _ := 0
  recorded _ := recd (F := F) c

/-! ## What the body finds in the windows' buffers -/

/-- A whole memref owned at `X` is its buffer held at contents that read `X`. -/
theorem owns_isWhole (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The block of the first window at step `t` starts at row `t` of its first axis and at zero of the others. -/
theorem emb0 (t : Fin cfg1.N) (y : S1x1024x128.Idx) : (((cfg1.win 0).blk t).view.emb y : S50x1024x128.Idx) = ix3 (Fin.ofNat 50 t.val) (y 1) (y 2) := by
  have hi : (cfg1.win 0).index t = ![t.val, 0, 0] := index0 t
  have ht : t.val < 50 := t.isLt.trans_eq N_1
  have hy : (y 0).val < 1 := (y 0).isLt
  have h0 := Window.rect_emb_val (cfg1.win 0) t y 0
  have h1 := Window.rect_emb_val (cfg1.win 0) t y 1
  have h2 := Window.rect_emb_val (cfg1.win 0) t y 2
  rw [hi] at h0 h1 h2
  have e0 : ((((cfg1.win 0).blk t).view.emb y : S50x1024x128.Idx) 0).val = t.val % 50 :=
    h0.trans (show t.val * 1 + (y 0).val = t.val % 50 by omega)
  have e1 : ((((cfg1.win 0).blk t).view.emb y : S50x1024x128.Idx) 1).val = (y 1).val :=
    h1.trans (show 0 * 1024 + (y 1).val = (y 1).val by omega)
  have e2 : ((((cfg1.win 0).blk t).view.emb y : S50x1024x128.Idx) 2).val = (y 2).val :=
    h2.trans (show 0 * 128 + (y 2).val = (y 2).val by omega)
  funext a
  match a with
  | 0 => exact Fin.ext e0
  | 1 => exact Fin.ext e1
  | 2 => exact Fin.ext e2

theorem block0 (c : Dev nD) (t : Fin cfg1.N) : (dat V c).blockOf 0 t = xAt (vX V c) t.val := by
  funext y
  exact congrArg (vX V c) (emb0 t y)

theorem block1 (c : Dev nD) (t : Fin cfg1.N) : (dat V c).blockOf 1 t = vW V c := by
  funext y
  show V c main_v18 (((cfg1.win 1).blk t).view.emb y) = V c main_v18 y
  congr 1
  funext a; apply Fin.ext
  exact Window.rect_emb_val_of_index_zero (cfg1.win 1) t a (by fin_cases a <;> rfl) y
theorem block2 (c : Dev nD) (t : Fin cfg1.N) : (dat V c).blockOf 2 t = vB V c := by
  funext y
  show V c main_v9 (((cfg1.win 2).blk t).view.emb y) = V c main_v9 y
  congr 1
  funext a; apply Fin.ext
  exact Window.rect_emb_val_of_index_zero (cfg1.win 2) t a (by fin_cases a <;> rfl) y
theorem block3 (c : Dev nD) (t : Fin cfg1.N) : (dat V c).blockOf 3 t = vWc V c := by
  funext y
  show V c main_v19 (((cfg1.win 3).blk t).view.emb y) = V c main_v19 y
  congr 1
  funext a; apply Fin.ext
  exact Window.rect_emb_val_of_index_zero (cfg1.win 3) t a (by fin_cases a <;> rfl) y
theorem block4 (c : Dev nD) (t : Fin cfg1.N) : (dat V c).blockOf 4 t = vBc V c := by
  funext y
  show V c main_v17 (((cfg1.win 4).blk t).view.emb y) = V c main_v17 y
  congr 1
  funext a; apply Fin.ext
  exact Window.rect_emb_val_of_index_zero (cfg1.win 4) t a (by fin_cases a <;> rfl) y

theorem before0 (c : Dev nD) (t : Fin cfg1.N) (d) : (dat V c).before 0 t d = xAt (vX V c) t.val :=
  ((dat V c).before_in_eq_fetched 0 rfl (fun _ => rfl) (fun _ _ _ => rfl) (fun t => (block0 V c t).symm) t d).trans (block0 V c t)
theorem before1 (c : Dev nD) (t : Fin cfg1.N) (d) : (dat V c).before 1 t d = vW V c :=
  ((dat V c).before_in_eq_fetched 1 rfl (fun _ => rfl) (fun _ _ _ => rfl) (fun t => (block1 V c t).symm) t d).trans (block1 V c t)
theorem before2 (c : Dev nD) (t : Fin cfg1.N) (d) : (dat V c).before 2 t d = vB V c :=
  ((dat V c).before_in_eq_fetched 2 rfl (fun _ => rfl) (fun _ _ _ => rfl) (fun t => (block2 V c t).symm) t d).trans (block2 V c t)
theorem before3 (c : Dev nD) (t : Fin cfg1.N) (d) : (dat V c).before 3 t d = vWc V c :=
  ((dat V c).before_in_eq_fetched 3 rfl (fun _ => rfl) (fun _ _ _ => rfl) (fun t => (block3 V c t).symm) t d).trans (block3 V c t)
theorem before4 (c : Dev nD) (t : Fin cfg1.N) (d) : (dat V c).before 4 t d = vBc V c :=
  ((dat V c).before_in_eq_fetched 4 rfl (fun _ => rfl) (fun _ _ _ => rfl) (fun t => (block4 V c t).symm) t d).trans (block4 V c t)

/-- What the call leaves in its result's array. -/
theorem arrAt5 (c : Dev nD) : (dat V c).arrAt 5 cfg1.N = lstmOut (vX V c) (vW V c) (vB V c) (vWc V c) (vBc V c) := by
  refine Dat.arrAt_eq_of_covers (dat V c) 5 _ (by decide +kernel) fun t hf y => ?_
  show lstmOut (vX V c) (vW V c) (vB V c) (vWc V c) (vBc V c) y = lstmOut (vX V c) (vW V c) (vB V c) (vWc V c) (vBc V c) (((cfg1.win 5).blk t).view.emb y)
  congr 1
  funext a; apply Fin.ext
  exact (Window.rect_emb_val_of_index_zero (cfg1.win 5) t a (by fin_cases a <;> rfl) y).symm

/-! ## The body's obligation -/

abbrev Mx (t : Fin cfg1.N) := win1_0.stage (cfg1.slots t 0)
abbrev Mw (t : Fin cfg1.N) := win1_1.stage (cfg1.slots t 1)
abbrev Mb (t : Fin cfg1.N) := win1_2.stage (cfg1.slots t 2)
abbrev Mwc (t : Fin cfg1.N) := win1_3.stage (cfg1.slots t 3)
abbrev Mbc (t : Fin cfg1.N) := win1_4.stage (cfg1.slots t 4)
abbrev Mo (t : Fin cfg1.N) := win1_5.stage (cfg1.slots t 5)

theorem wX (t : Fin cfg1.N) : (Mx t).IsWhole := hstage1_0 ((cfg1.slots t 0).cast nbuf1_0)
theorem wW (t : Fin cfg1.N) : (Mw t).IsWhole := hstage1_1 ((cfg1.slots t 1).cast nbuf1_1)
theorem wB (t : Fin cfg1.N) : (Mb t).IsWhole := hstage1_2 ((cfg1.slots t 2).cast nbuf1_2)
theorem wWc (t : Fin cfg1.N) : (Mwc t).IsWhole := hstage1_3 ((cfg1.slots t 3).cast nbuf1_3)
theorem wBc (t : Fin cfg1.N) : (Mbc t).IsWhole := hstage1_4 ((cfg1.slots t 4).cast nbuf1_4)
theorem wO (t : Fin cfg1.N) : (Mo t).IsWhole := hstage1_5 ((cfg1.slots t 5).cast nbuf1_5)

/-- The body as the pipeline calls it at step `t`. -/
abbrev bodyT (t : Fin cfg1.N) : Prog (TpuEff nD τ sig (Elt F) Λ₀ .tc) PUnit :=
  cc1__lstm_body (grid1.coords t) (Mx t) (wX t) (Mw t) (wW t) (Mb t) (wB t) (Mwc t) (wWc t) (Mbc t) (wBc t) (Mo t) (wO t)
    (Memref.whole cc1_scratch0) (Memref.isWhole_whole _) (Memref.whole cc1_scratch1) (Memref.isWhole_whole _)

/-- What step `t` is run from and leaves, on the buffers themselves: the inputs' as they are, the scratch at the state
    before and after, and the result's buffer untouched except at the last step, which puts the result in it. -/
theorem step_run (c : Dev nD) (t : Fin cfg1.N)
    (f1 : Bf (F := F) c (Mx t)) (f2 : Bf (F := F) c (Mw t)) (f3 : Bf (F := F) c (Mb t)) (f4 : Bf (F := F) c (Mwc t)) (f5 : Bf (F := F) c (Mbc t))
    (f6 : Bf (F := F) c (Mo t))
    (e1 : (Mx t).view.read (Elt F) f1 = xAt (vX V c) t.val) (e2 : (Mw t).view.read (Elt F) f2 = vW V c) (e3 : (Mb t).view.read (Elt F) f3 = vB V c)
    (e4 : (Mwc t).view.read (Elt F) f4 = vWc V c) (e5 : (Mbc t).view.read (Elt F) f5 = vBc V c) (Q : PUnit → sProp 𝕄) :
  iprop(pt c (Mx t) f1 ∗ pt c (Mw t) f2 ∗ pt c (Mb t) f3 ∗ pt c (Mwc t) f4 ∗ pt c (Mbc t) f5 ∗ pt c (Mo t) f6 ∗ PhiAt V c t.val
    ∗ (∀ g6, pt c (Mx t) f1 ∗ pt c (Mw t) f2 ∗ pt c (Mb t) f3 ∗ pt c (Mwc t) f4 ∗ pt c (Mbc t) f5 ∗ pt c (Mo t) g6 ∗ PhiAt V c (t.val + 1)
      ∗ ⌜(t.val ≠ 49 → g6 = f6) ∧ (t.val = 49 → (Mo t).view.read (Elt F) g6 = lstmOut (vX V c) (vW V c) (vB V c) (vWc V c) (vBc V c))⌝ -∗ Q ⟨⟩))
   ⊢ wp frame (wpE (defs₀ (F := F)) 𝒱₀ c none) Set.univ (bodyT t) Q := by
  have hstep : ∀ n, sAt V c (n + 1) = (hNext (xAt (vX V c) n) (vW V c) (vB V c) (sAt V c n), cNext (xAt (vX V c) n) (vW V c) (vB V c) (sAt V c n)) := fun _ => rfl
  unfold PhiAt
  iintro ⟨H1, H2, H3, H4, H5, H6, ⟨%f7, %f8, H7, H8, %hs⟩, Hk⟩
  by_cases h0 : t.val = 0
  · iapply (first_run c (grid1.coords t) (Mx t) (wX t) (Mw t) (wW t) (Mb t) (wB t) (Mwc t) (wWc t) (Mbc t) (wBc t) (Mo t) (wO t)
      (Memref.whole cc1_scratch0) (Memref.isWhole_whole _) (Memref.whole cc1_scratch1) (Memref.isWhole_whole _) f1 f2 f3 f4 f5 f6 f7 f8
      (xAt (vX V c) t.val) (vW V c) (vB V c) ((isFirst_iff t).2 h0) (fun h => by have := (cond2_iff t).1 h; omega) e1 e2 e3 Set.univ Q)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro %g7 %g8 ⟨H1, H2, H3, H4, H5, H6, H7, H8, %hg⟩
    iapply Hk $$ %f6
    isplitl [H1]; · iexact H1
    isplitl [H2]; · iexact H2
    isplitl [H3]; · iexact H3
    isplitl [H4]; · iexact H4
    isplitl [H5]; · iexact H5
    isplitl [H6]; · iexact H6
    isplitl [H7 H8]
    · iexists g7; iexists g8
      isplitl [H7]; · iexact H7
      isplitl [H8]; · iexact H8
      ipureintro
      intro _
      have e : sAt V c t.val = st0 := by rw [h0]; rfl
      rw [hstep, e]; exact hg
    · ipureintro
      exact ⟨fun _ => rfl, fun h => absurd h (by omega)⟩
  · have hs' := hs (Nat.pos_of_ne_zero h0)
    by_cases h9 : t.val = 49
    · iapply (last_run c (grid1.coords t) (Mx t) (wX t) (Mw t) (wW t) (Mb t) (wB t) (Mwc t) (wWc t) (Mbc t) (wBc t) (Mo t) (wO t)
        (Memref.whole cc1_scratch0) (Memref.isWhole_whole _) (Memref.whole cc1_scratch1) (Memref.isWhole_whole _) f1 f2 f3 f4 f5 f6 f7 f8
        (xAt (vX V c) t.val) (vW V c) (vB V c) (vWc V c) (vBc V c) (sAt V c t.val) (fun h => h0 ((isFirst_iff t).1 h)) ((cond2_iff t).2 h9)
        e1 e2 e3 e4 e5 hs'.1 hs'.2 Set.univ Q)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro %g6 %g7 %g8 ⟨H1, H2, H3, H4, H5, H6, H7, H8, %hg⟩
      iapply Hk $$ %g6
      isplitl [H1]; · iexact H1
      isplitl [H2]; · iexact H2
      isplitl [H3]; · iexact H3
      isplitl [H4]; · iexact H4
      isplitl [H5]; · iexact H5
      isplitl [H6]; · iexact H6
      isplitl [H7 H8]
      · iexists g7; iexists g8
        isplitl [H7]; · iexact H7
        isplitl [H8]; · iexact H8
        ipureintro
        intro _
        exact ⟨hg.1, hg.2.1⟩
      · ipureintro
        refine ⟨fun h => absurd h9 h, fun _ => hg.2.2.trans ?_⟩
        have e : hNext (xAt (vX V c) t.val) (vW V c) (vB V c) (sAt V c t.val) = (sAt V c 50).1 := by
          have : (sAt V c (t.val + 1)).1 = (sAt V c 50).1 := by rw [h9]
          exact this
        exact congrArg (fun v => k1_pay4 v (vWc V c) (vBc V c)) e
    · iapply (mid_run c (grid1.coords t) (Mx t) (wX t) (Mw t) (wW t) (Mb t) (wB t) (Mwc t) (wWc t) (Mbc t) (wBc t) (Mo t) (wO t)
        (Memref.whole cc1_scratch0) (Memref.isWhole_whole _) (Memref.whole cc1_scratch1) (Memref.isWhole_whole _) f1 f2 f3 f4 f5 f6 f7 f8
        (xAt (vX V c) t.val) (vW V c) (vB V c) (sAt V c t.val) (fun h => h0 ((isFirst_iff t).1 h)) (fun h => h9 ((cond2_iff t).1 h))
        e1 e2 e3 hs'.1 hs'.2 Set.univ Q)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro %g7 %g8 ⟨H1, H2, H3, H4, H5, H6, H7, H8, %hg⟩
      iapply Hk $$ %f6
      isplitl [H1]; · iexact H1
      isplitl [H2]; · iexact H2
      isplitl [H3]; · iexact H3
      isplitl [H4]; · iexact H4
      isplitl [H5]; · iexact H5
      isplitl [H6]; · iexact H6
      isplitl [H7 H8]
      · iexists g7; iexists g8
        isplitl [H7]; · iexact H7
        isplitl [H8]; · iexact H8
        ipureintro
        intro _
        exact ⟨hg.1, hg.2⟩
      · ipureintro
        exact ⟨fun _ => rfl, fun h => absurd h h9⟩

/-- The pipeline's obligation on the body: at every grid step, from the windows' blocks and the invariant, the kernel
    runs and leaves the blocks and the invariant at the next step. -/
theorem body_obligation (c : Dev nD) : BodyObligation (dat V c) (defs₀ (F := F)) 𝒱₀ (none : HIx 1) Set.univ := fun t => by
  rw [bigSep_W1, bigSep_W1]
  show iprop(PhiAt V c t.val ∗ (dat V c).owesAt none t.castSucc
      ∗ (∃ d, owns (c : Thread nD τ) (Mx t) fullShare ((dat V c).before 0 t d)) ∗ (∃ d, owns (c : Thread nD τ) (Mw t) fullShare ((dat V c).before 1 t d))
      ∗ (∃ d, owns (c : Thread nD τ) (Mb t) fullShare ((dat V c).before 2 t d)) ∗ (∃ d, owns (c : Thread nD τ) (Mwc t) fullShare ((dat V c).before 3 t d))
      ∗ (∃ d, owns (c : Thread nD τ) (Mbc t) fullShare ((dat V c).before 4 t d)) ∗ (∃ d, owns (c : Thread nD τ) (Mo t) fullShare ((dat V c).before 5 t d)))
    ⊢ wp frame (wpE (defs₀ (F := F)) 𝒱₀ c none) Set.univ (bodyT t) fun _ => iprop(PhiAt V c (t.val + 1) ∗ (dat V c).owesAt none t.castSucc
      ∗ owns (c : Thread nD τ) (Mx t) fullShare (xAt (vX V c) t.val) ∗ owns (c : Thread nD τ) (Mw t) fullShare (vW V c)
      ∗ owns (c : Thread nD τ) (Mb t) fullShare (vB V c) ∗ owns (c : Thread nD τ) (Mwc t) fullShare (vWc V c)
      ∗ owns (c : Thread nD τ) (Mbc t) fullShare (vBc V c)
      ∗ (match idle1 5 (grid1.coords t) with
          | true => match (cfg1.win 5).flush t with
            | false => iprop(∃ d, owns (c : Thread nD τ) (Mo t) fullShare ((dat V c).before 5 t d))
            | true => owns (c : Thread nD τ) (Mo t) fullShare (lstmOut (vX V c) (vW V c) (vB V c) (vWc V c) (vBc V c))
          | false => owns (c : Thread nD τ) (Mo t) fullShare (lstmOut (vX V c) (vW V c) (vB V c) (vWc V c) (vBc V c))))
  simp only [before0, before1, before2, before3, before4]
  simp only [owns_isWhole c (Mx t) (wX t), owns_isWhole c (Mw t) (wW t), owns_isWhole c (Mb t) (wB t), owns_isWhole c (Mwc t) (wWc t),
    owns_isWhole c (Mbc t) (wBc t), owns_isWhole c (Mo t) (wO t)]
  iintro ⟨HΦ, Howes, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩⟩
  iapply (step_run V c t f1 f2 f3 f4 f5 f6 e1 e2 e3 e4 e5)
  isplitl [H1]; · iexact H1
  isplitl [H2]; · iexact H2
  isplitl [H3]; · iexact H3
  isplitl [H4]; · iexact H4
  isplitl [H5]; · iexact H5
  isplitl [H6]; · iexact H6
  isplitl [HΦ]; · iexact HΦ
  iintro %g6 ⟨H1, H2, H3, H4, H5, H6, HΦ, %hg⟩
  isplitl [HΦ]; · iexact HΦ
  isplitl [Howes]; · iexact Howes
  isplitl [H1]
  · iexists f1; isplitr; (· ipureintro; exact e1); iexact H1
  isplitl [H2]
  · iexists f2; isplitr; (· ipureintro; exact e2); iexact H2
  isplitl [H3]
  · iexists f3; isplitr; (· ipureintro; exact e3); iexact H3
  isplitl [H4]
  · iexists f4; isplitr; (· ipureintro; exact e4); iexact H4
  isplitl [H5]
  · iexists f5; isplitr; (· ipureintro; exact e5); iexact H5
  have ht : t.val < 50 := t.isLt.trans_eq N_1
  by_cases h9 : t.val = 49
  · have hi : idle1 5 (grid1.coords t) = false := by rw [idle5, decide_eq_true h9]; rfl
    rw [hi]
    iexists g6; isplitr; (· ipureintro; exact hg.2 h9); iexact H6
  · have hi : idle1 5 (grid1.coords t) = true := by rw [idle5, decide_eq_false h9]; rfl
    have hfl : (cfg1.win 5).flush t = false := by
      rw [Bool.eq_false_iff]
      intro h
      have := (flush1_5 t).1 h
      omega
    rw [hi, hfl]
    iexists d6
    iexists g6; isplitr; (· ipureintro; rw [hg.1 h9]; exact e6); iexact H6

end Cert.Proof.KI

end
-- ==== Proof.KI.Call.lean ====
/-
  The LSTM call inside the program: the region entered from every buffer held, and left with its result written.
-/
module

public import proofs.«01_k».proof.Proof.KI.Region
public import Idealize.ShloMosaic.Lib.Pipeline.RegionsLoop

@[expose] public section

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## The pipeline's part of the ghost state -/

/-- The pipeline's rounds: the second factor's first. -/
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-- The pipeline has no prefetched table. -/
abbrev adm : (p : Fin 1) → (pcfgs (F := F) p).Adm := fun p => (cfgs p).toPCfg_adm

variable (V : (c : Dev nD) → (b : Ref sig .tc) → Buf (Elt F) ((c : Thread nD τ).loc b))

/-- The proof data of the one pipeline. -/
def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

/-- The core owes nothing, and what its waits recorded lies at or below the SparseCore call's levels. -/
abbrev owesW (c : Dev nD) : sProp 𝕄 :=
  iprop(∃ W, ⌜(K (F := F)).WBelow (SparseCore.T c : Thread nD τ) W 8⌝ ∗ owes (c : Thread nD τ) (0 : CellTallies nD τ sig (HIx 1)) W)

set_option backward.isDefEq.respectTransparency.types false in
/-- The call as a region over the buffers held: entered at the contents `V`, left at `Vp`, which is `V` but for the
    result. -/
def reg (hVp_out : ∀ c, Vp c main_v20 = lstmOut (vX V c) (vW V c) (vB V c) (vWc V c) (vBc V c))
    (hVp_ne : ∀ c (b : Ref sig .tc), b ≠ main_v20 → Vp c b = V c b) :
    Pipeline.RegionSeg (pcfgs (F := F)) adm (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ owesW c)
  post c := iprop(unscopedBufs c (Vp c) ∗ owesW c)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V 0 c).Φ 0 = PhiAt V c 0 from rfl]
    iintro ⟨-, -, Hr⟩
    ihave Hr := (Entails.of_eq (scopedRest1_eq c)) $$ Hr
    unfold PhiAt
    icases Hr with ⟨⟨%f7, H7⟩, %f8, H8⟩
    iexists f7; iexists f8
    isplitl [H7]; · iexact H7
    isplitl [H8]; · iexact H8
    ipureintro; exact fun h => absurd h (Nat.lt_irrefl 0)
  hout c := by
    rw [Pipeline.ownSems0_none, show (pdats V 0 c).Φ (Fin.last _) = PhiAt V c cfg1.N from rfl]
    unfold PhiAt
    iintro ⟨%f7, %f8, H7, H8, -⟩
    isplitr; · iempintro
    isplitr; · iempintro
    iapply (Entails.of_eq (scopedRest1_eq (Val := Elt F) (Ix := HIx 1) (Name := ℕ) (U := UU) (Lvl := ℕ) c).symm)
    isplitl [H7]
    · iexists f7; iexact H7
    · iexists f8; iexact H8
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v4 (by decide)).symm
        · exact ((pdats V 0 c).arrAt_in 1 rfl _).trans (hVp_ne c main_v18 (by decide)).symm
        · exact ((pdats V 0 c).arrAt_in 2 rfl _).trans (hVp_ne c main_v9 (by decide)).symm
        · exact ((pdats V 0 c).arrAt_in 3 rfl _).trans (hVp_ne c main_v19 (by decide)).symm
        · exact ((pdats V 0 c).arrAt_in 4 rfl _).trans (hVp_ne c main_v17 (by decide)).symm
        · exact (arrAt5 V c).trans (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro
    intro p hp
    rcases hW hp with h | ⟨w, s, h⟩
    · exact h
    · rw [h]; exact Nat.zero_le _

/-- The pipeline's cells are pairwise distinct. -/
theorem phinj : Function.Injective (Pipeline.cellOf (nD := nD) (τ := τ) (Pipeline.pin (pcfgs (F := F)) adm)) := cellOf_inj

/-- What the launch deals the pipeline on device `d`. -/
abbrev pghost (d : Dev nD) : sProp 𝕄 :=
  iprop(Pipeline.cellsGhost (Pipeline.pin (pcfgs (F := F)) adm) EP 0 d ∗ Pipeline.toksInit (Pipeline.pin (pcfgs (F := F)) adm) EP 0 d)

/-- The LSTM call of the pipeline's own body table, run from the buffers at `V`: its result is the recurrence's, every
    other buffer is unchanged. -/
theorem entry_run (hVp_out : ∀ c, Vp c main_v20 = lstmOut (vX V c) (vW V c) (vB V c) (vWc V c) (vBc V c))
    (hVp_ne : ∀ c (b : Ref sig .tc), b ≠ main_v20 → Vp c b = V c b) (d : Dev nD) (Q : PUnit → sProp 𝕄) :
    iprop(((boundary (d.tc : Thread nD τ) ∗ unscopedBufs d (Vp d) ∗ owesW d) -∗ Q ⟨⟩)
        ∗ boundary (d.tc : Thread nD τ) ∗ (unscopedBufs d (V d) ∗ owesW d) ∗ levAts (K (F := F)).L (K (F := F)).lev ∗ pghost d)
      ⊢ wp frame (wpE (D (F := F)) 𝒱 (d.tc : Thread nD τ) none) Set.univ
          (.op (.customCall (Pipeline.entry 0) ()) fun _ => .ret ⟨⟩) Q := by
  have h := (reg V Vp hVp_out hVp_ne).wp (pcfgs (F := F)) adm (pdats V) (none : HIx 1) phinj EP defs₀ 𝒱₀ (K (F := F)).L (K (F := F)).lev d none
    (fun u hu => nomatch hu) (fun _ => .ret ⟨⟩) Q
  rw [show (reg V Vp hVp_out hVp_ne).pre d = iprop(unscopedBufs d (V d) ∗ owesW d) from rfl,
    show (reg V Vp hVp_out hVp_ne).post d = iprop(unscopedBufs d (Vp d) ∗ owesW d) from rfl] at h
  refine BIBase.Entails.trans ?_ h
  iintro ⟨Hk, Hb, Hpre, Hl, Hg⟩
  isplitl [Hk]
  · iintro H
    rw [wp_ret]; imodintro
    iapply Hk; iexact H
  isplitl [Hb]; · iexact Hb
  isplitl [Hpre]; · iexact Hpre
  isplitl [Hl]; · iexact Hl
  iexact Hg

/-- The same for the call as @main makes it, under the SparseCore launch's body table. -/
theorem call_run (hVp_out : ∀ c, Vp c main_v20 = lstmOut (vX V c) (vW V c) (vB V c) (vWc V c) (vBc V c))
    (hVp_ne : ∀ c (b : Ref sig .tc), b ≠ main_v20 → Vp c b = V c b) (d : Dev nD) (Q : PUnit → sProp 𝕄) :
    iprop(((boundary (d.tc : Thread nD τ) ∗ unscopedBufs d (Vp d) ∗ owesW d) -∗ Q ⟨⟩)
        ∗ boundary (d.tc : Thread nD τ) ∗ (unscopedBufs d (V d) ∗ owesW d) ∗ levAts (K (F := F)).L (K (F := F)).lev ∗ pghost d)
      ⊢ wp frame (wpE ((K (F := F)).defs (D (F := F))) 𝒱 (d.tc : Thread nD τ) none) Set.univ
          (Prog.lift (.customCall (SparseCore.inner (Pipeline.entry 0)) ())) Q := by
  have h := (K (F := F)).wp_liftProg (D (F := F)) 𝒱 (d.tc : Thread nD τ) Set.univ none (.op (.customCall (Pipeline.entry 0) ()) fun _ => .ret ⟨⟩) Q
  exact BIBase.Entails.trans (entry_run V Vp hVp_out hVp_ne d Q) h

end Cert.Proof.KI

end
-- ==== Proof.KI.Host.lean ====
/-
  The host operations of @main: the two lines around the gather call, the slice at the end, and the contents of every
  buffer between them.
-/
module

public import proofs.«01_k».proof.Proof.KI.Splits
public import proofs.«01_k».proof.Proof.KI.Call

@[expose] public section

noncomputable section

namespace Cert.Proof.KI

open Cert.KernelIdeal Cert.KernelIdeal.Gen

open Idealize.ShloMosaic
open Idealize.ShloMosaic.TcCoe
open Idealize.ShloMosaic.SparseCore.Cfg (HIx Pay)
open Idealize.ShloMosaic.StableHlo (after held seq seqK tcRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The operations -/

/-- Before the gather call: the indices transposed and reshaped to the tasks' row numbers. -/
def preOps : List (HloOp τ sig (Elt F)) :=
  [StableHlo.unary main_arg0 main_v0 ((transpose S50x1024 [1, 0] · transposes_S1024x50_S50x1024_1_0) : (⟨S1024x50, .i32⟩ : BufTy).Contents (Elt F) → (⟨S50x1024, .i32⟩ : BufTy).Contents (Elt F)),
    StableHlo.reshape main_v0 main_v1 (rfl : (.i32 : EltTy) = .i32) shapeCasts_S50x1024_S51200,
    StableHlo.reshape main_v1 main_v2 (rfl : (.i32 : EltTy) = .i32) shapeCasts_S51200_S32x20x80]

/-- Between the calls: the gathered rows reshaped, the two weights joined and cast, the biases added, the classifier
    padded to 128 columns. -/
def postOps : List (HloOp τ sig (Elt F)) :=
  [StableHlo.reshape main_v3 main_v4 (rfl : (.f32 : EltTy) = .f32) shapeCasts_S51200x128_S50x1024x128,
    StableHlo.unary main_arg2 main_v5 ((transpose S128x2048 [1, 0] · transposes_S2048x128_S128x2048_1_0) : (⟨S2048x128, .f32⟩ : BufTy).Contents (Elt F) → (⟨S128x2048, .f32⟩ : BufTy).Contents (Elt F)),
    StableHlo.unary main_arg3 main_v6 ((transpose S512x2048 [1, 0] · transposes_S2048x512_S512x2048_1_0) : (⟨S2048x512, .f32⟩ : BufTy).Contents (Elt F) → (⟨S512x2048, .f32⟩ : BufTy).Contents (Elt F)),
    StableHlo.binary main_v5 main_v6 main_v7 ((fun a b => concatenate S640x2048 0 [⟨S128x2048, a⟩, ⟨S512x2048, b⟩] concatenates_S128x2048_S512x2048_S640x2048_d0) : (⟨S128x2048, .f32⟩ : BufTy).Contents (Elt F) → (⟨S512x2048, .f32⟩ : BufTy).Contents (Elt F) → (⟨S640x2048, .f32⟩ : BufTy).Contents (Elt F)),
    StableHlo.binary main_arg4 main_arg5 main_v8 (addf : (⟨S2048, .f32⟩ : BufTy).Contents (Elt F) → (⟨S2048, .f32⟩ : BufTy).Contents (Elt F) → (⟨S2048, .f32⟩ : BufTy).Contents (Elt F)),
    StableHlo.reshape main_v8 main_v9 (rfl : (.f32 : EltTy) = .f32) shapeCasts_S2048_S1x2048,
    StableHlo.nullary main_cst (constant S_ .f32 0x00000000#32),
    StableHlo.unary main_cst main_v10 (broadcastInDim S512x128 ![] bcast_S_S512x128 : (⟨S_, .f32⟩ : BufTy).Contents (Elt F) → (⟨S512x128, .f32⟩ : BufTy).Contents (Elt F)),
    StableHlo.unary main_arg6 main_v11 ((transpose S512x3 [1, 0] · transposes_S3x512_S512x3_1_0) : (⟨S3x512, .f32⟩ : BufTy).Contents (Elt F) → (⟨S512x3, .f32⟩ : BufTy).Contents (Elt F)),
    StableHlo.nullary main_c (constantI S_ 32 0#32),
    StableHlo.unary main_c main_v12 (broadcastInDim S1 ![] bcast_S_S1 : (⟨S_, .i32⟩ : BufTy).Contents (Elt F) → (⟨S1, .i32⟩ : BufTy).Contents (Elt F)),
    StableHlo.ternary main_v10 main_v12 main_v11 main_v13 ((fun x i u => Host.scatter scatter_S512x128_S1_S512x3_01_n_1_0 (fun _ b => b) x i u) : (⟨S512x128, .f32⟩ : BufTy).Contents (Elt F) → (⟨S1, .i32⟩ : BufTy).Contents (Elt F) → (⟨S512x3, .f32⟩ : BufTy).Contents (Elt F) → (⟨S512x128, .f32⟩ : BufTy).Contents (Elt F)),
    StableHlo.nullary main_cst_0 (constant S_ .f32 0x00000000#32),
    StableHlo.unary main_cst_0 main_v14 (broadcastInDim S1x128 ![] bcast_S_S1x128 : (⟨S_, .f32⟩ : BufTy).Contents (Elt F) → (⟨S1x128, .f32⟩ : BufTy).Contents (Elt F)),
    StableHlo.nullary main_c_1 (constantI S_ 32 0#32),
    StableHlo.unary main_c_1 main_v15 (broadcastInDim S1 ![] bcast_S_S1 : (⟨S_, .i32⟩ : BufTy).Contents (Elt F) → (⟨S1, .i32⟩ : BufTy).Contents (Elt F)),
    StableHlo.unary main_arg7 main_v16 (broadcastInDim S1x3 ![1] bcast_S3_S1x3_1 : (⟨S3, .f32⟩ : BufTy).Contents (Elt F) → (⟨S1x3, .f32⟩ : BufTy).Contents (Elt F)),
    StableHlo.ternary main_v14 main_v15 main_v16 main_v17 ((fun x i u => Host.scatter scatter_S1x128_S1_S1x3_01_n_1_0 (fun _ b => b) x i u) : (⟨S1x128, .f32⟩ : BufTy).Contents (Elt F) → (⟨S1, .i32⟩ : BufTy).Contents (Elt F) → (⟨S1x3, .f32⟩ : BufTy).Contents (Elt F) → (⟨S1x128, .f32⟩ : BufTy).Contents (Elt F)),
    StableHlo.unary main_v7 main_v18 ((truncf .bf16 · bitsLt_bf16_f32) : (⟨S640x2048, .f32⟩ : BufTy).Contents (Elt F) → (⟨S640x2048, .bf16⟩ : BufTy).Contents (Elt F)),
    StableHlo.unary main_v13 main_v19 ((truncf .bf16 · bitsLt_bf16_f32) : (⟨S512x128, .f32⟩ : BufTy).Contents (Elt F) → (⟨S512x128, .bf16⟩ : BufTy).Contents (Elt F))]

/-- After the calls: the classifier's three columns. -/
def outOp : HloOp τ sig (Elt F) :=
  StableHlo.unary main_v20 main_v21 ((extractStridedSlice S1024x3 ![0, 0] · slices_S1024x128_S1024x3_0_0) : (⟨S1024x128, .f32⟩ : BufTy).Contents (Elt F) → (⟨S1024x3, .f32⟩ : BufTy).Contents (Elt F))

/-- @main is the three stretches around the two calls. -/
theorem main_eq (d : Dev nD) : main (F := F) d = seqK preOps ((K (F := F)).run d 0 >>= fun _ => seqK postOps
    (Prog.lift (.customCall (SparseCore.inner (Pipeline.entry 0)) ()) >>= fun _ => seqK [outOp] (pure ⟨⟩))) := rfl

/-! ## The buffers held -/

/-- The TensorCore's buffers outside every scope: what the host operations read and write. -/
def ucRefs : Finset (DevRef τ sig) := (tcRefs τ sig).filter fun b => ¬ b.isScoped

/-- The launch's buffers at a valuation are that set held at it. -/
theorem unscopedBufs_held (c : Dev nD) (W : Valuation τ sig (Elt F)) :
    (unscopedBufs c (fun b => W b) : sProp 𝕄) = held (c : Thread nD τ) ucRefs W := by
  unfold unscopedBufs held ucRefs tcRefs
  rw [Finset.filter_map, bigSep_map]
  rfl

theorem uc_mem {b : Ref sig .tc} (h : (Proc.devRef (τ := τ) .tc b).isScoped = false) : Proc.devRef (τ := τ) .tc b ∈ ucRefs :=
  Finset.mem_filter.mpr ⟨StableHlo.devRef_mem_tcRefs b, by rw [h]; decide⟩
theorem sub1 {b : Ref sig .tc} (h : (Proc.devRef (τ := τ) .tc b).isScoped = false) : ({Proc.devRef (τ := τ) .tc b} : Finset (DevRef τ sig)) ⊆ ucRefs :=
  Finset.singleton_subset_iff.mpr (uc_mem h)
theorem sub2 {a b : Ref sig .tc} (ha : (Proc.devRef (τ := τ) .tc a).isScoped = false) (h : (Proc.devRef (τ := τ) .tc b).isScoped = false) :
    ({Proc.devRef (τ := τ) .tc a, Proc.devRef (τ := τ) .tc b} : Finset (DevRef τ sig)) ⊆ ucRefs :=
  Finset.insert_subset (uc_mem ha) (sub1 h)
theorem sub3 {a b c : Ref sig .tc} (ha : (Proc.devRef (τ := τ) .tc a).isScoped = false) (hb : (Proc.devRef (τ := τ) .tc b).isScoped = false)
    (h : (Proc.devRef (τ := τ) .tc c).isScoped = false) :
    ({Proc.devRef (τ := τ) .tc a, Proc.devRef (τ := τ) .tc b, Proc.devRef (τ := τ) .tc c} : Finset (DevRef τ sig)) ⊆ ucRefs :=
  Finset.insert_subset (uc_mem ha) (sub2 hb h)
theorem sub4 {a b c e : Ref sig .tc} (ha : (Proc.devRef (τ := τ) .tc a).isScoped = false) (hb : (Proc.devRef (τ := τ) .tc b).isScoped = false)
    (hc : (Proc.devRef (τ := τ) .tc c).isScoped = false) (h : (Proc.devRef (τ := τ) .tc e).isScoped = false) :
    ({Proc.devRef (τ := τ) .tc a, Proc.devRef (τ := τ) .tc b, Proc.devRef (τ := τ) .tc c, Proc.devRef (τ := τ) .tc e} : Finset (DevRef τ sig)) ⊆ ucRefs :=
  Finset.insert_subset (uc_mem ha) (sub3 hb hc h)

theorem pre_sub : ∀ op ∈ preOps (F := F), op.bufs ⊆ ucRefs :=
  List.forall_iff_forall_mem.mp (show List.Forall (fun op => op.bufs ⊆ ucRefs) (preOps (F := F)) from
    ⟨sub2 rfl rfl, sub2 rfl rfl, sub2 rfl rfl⟩)
theorem post_sub : ∀ op ∈ postOps (F := F), op.bufs ⊆ ucRefs :=
  List.forall_iff_forall_mem.mp (show List.Forall (fun op => op.bufs ⊆ ucRefs) (postOps (F := F)) from
    ⟨sub2 rfl rfl, sub2 rfl rfl, sub2 rfl rfl, sub3 rfl rfl rfl, sub3 rfl rfl rfl, sub2 rfl rfl, sub1 rfl, sub2 rfl rfl, sub2 rfl rfl, sub1 rfl, sub2 rfl rfl, sub4 rfl rfl rfl rfl, sub1 rfl, sub2 rfl rfl, sub1 rfl, sub2 rfl rfl, sub2 rfl rfl, sub4 rfl rfl rfl rfl, sub2 rfl rfl, sub2 rfl rfl⟩)
theorem out_sub : ∀ op ∈ [outOp (F := F)], op.bufs ⊆ ucRefs :=
  List.forall_iff_forall_mem.mp (show List.Forall (fun op => op.bufs ⊆ ucRefs) [outOp (F := F)] from sub2 rfl rfl)
theorem pre_fresh : ∀ op ∈ preOps (F := F), op.fresh = ∅ := List.forall_iff_forall_mem.mp (StableHlo.forall_fresh_of_map rfl)
theorem post_fresh : ∀ op ∈ postOps (F := F), op.fresh = ∅ := List.forall_iff_forall_mem.mp (StableHlo.forall_fresh_of_map rfl)
theorem out_fresh : ∀ op ∈ [outOp (F := F)], op.fresh = ∅ := List.forall_iff_forall_mem.mp (StableHlo.forall_fresh_of_map rfl)

/-- The buffers each line writes. -/
abbrev preW : List (Ref sig .tc) := [main_v0, main_v1, main_v2]
abbrev postW : List (Ref sig .tc) := [main_v4, main_v5, main_v6, main_v7, main_v8, main_v9, main_cst, main_v10, main_v11, main_c, main_v12, main_v13, main_cst_0, main_v14, main_c_1, main_v15, main_v16, main_v17, main_v18, main_v19]
theorem pre_writes : (preOps (F := F)).Forall fun op => op.writes ⊆ (preW.map (Proc.devRef (τ := τ) .tc)).toFinset :=
  StableHlo.forall_writes_sub_of_map rfl
theorem post_writes : (postOps (F := F)).Forall fun op => op.writes ⊆ (postW.map (Proc.devRef (τ := τ) .tc)).toFinset :=
  StableHlo.forall_writes_sub_of_map rfl

/-! ## The contents along @main -/

variable (m : (ℓ : Loc nD τ sig) → Buf (Elt F) ℓ)

/-- At the launch. -/
def V0 (d : Dev nD) : Valuation τ sig (Elt F) := fun b => m (d, b)
/-- Before the gather call. -/
def V1 (d : Dev nD) : Valuation τ sig (Elt F) := after preOps (V0 m d)
/-- The gather call's arrays as it meets them. -/
def inp : Inp F where
  I d := V1 m d (Proc.devRef .tc main_v2)
  X d := V1 m d (Proc.devRef .tc main_arg1)
  O d := V1 m d (Proc.devRef .tc main_v3)
/-- After the gather call. -/
def V2 (d : Dev nD) : Valuation τ sig (Elt F) := Function.update (V1 m d) (Proc.devRef .tc main_v3) (G (inp m) d)
/-- Before the LSTM call. -/
def V3 (d : Dev nD) : Valuation τ sig (Elt F) := after postOps (V2 m d)
/-- What the LSTM call leaves in its result. -/
def lstmRes (d : Dev nD) : Buf (Elt F) ((d : Thread nD τ).loc main_v20) :=
  lstmOut (vX (fun c b => V3 m c b) d) (vW (fun c b => V3 m c b) d) (vB (fun c b => V3 m c b) d) (vWc (fun c b => V3 m c b) d)
    (vBc (fun c b => V3 m c b) d)
/-- After the LSTM call. -/
def V4 (d : Dev nD) : Valuation τ sig (Elt F) := Function.update (V3 m d) (Proc.devRef .tc main_v20) (lstmRes m d)
/-- At the end. -/
def V5 (d : Dev nD) : Valuation τ sig (Elt F) := after [outOp] (V4 m d)

theorem V4_out (d : Dev nD) : V4 m d (Proc.devRef .tc main_v20) = lstmRes m d := Function.update_self _ _ _
theorem V4_ne (d : Dev nD) (b : Ref sig .tc) (h : b ≠ main_v20) : V4 m d (Proc.devRef .tc b) = V3 m d (Proc.devRef .tc b) :=
  Function.update_of_ne (StableHlo.devRef_ne_of_ne h) _ _
theorem V2_o (d : Dev nD) : V2 m d (Proc.devRef .tc main_v3) = G (inp m) d := Function.update_self _ _ _
theorem V2_ne (d : Dev nD) (b : Ref sig .tc) (h : b ≠ main_v3) : V2 m d (Proc.devRef .tc b) = V1 m d (Proc.devRef .tc b) :=
  Function.update_of_ne (StableHlo.devRef_ne_of_ne h) _ _

/-- A buffer nothing writes holds its launch contents at the end. -/
theorem V5_arg (d : Dev nD) (b : Ref sig .tc) (h0 : b ∉ preW) (h1 : b ≠ main_v3) (h2 : b ∉ postW) (h3 : b ≠ main_v20) (h4 : b ≠ main_v21) :
    V5 m d (Proc.devRef .tc b) = m ((d : Thread nD τ).loc b) := by
  unfold V5
  rw [StableHlo.after_cons, StableHlo.after_nil]
  refine (StableHlo.unary_result_ne _ _ _ _ _ _ h4).trans ?_
  rw [V4_ne m d b h3]
  unfold V3
  rw [StableHlo.after_of_writes_sub postOps _ post_writes h2, V2_ne m d b h1]
  unfold V1
  rw [StableHlo.after_of_writes_sub preOps _ pre_writes h0]
  rfl

/-- The result is the first three columns of the LSTM call's. -/
theorem V5_res (d : Dev nD) : V5 m d (Proc.devRef .tc main_v21) = extractStridedSlice S1024x3 ![0, 0] (lstmRes m d) slices_S1024x128_S1024x3_0_0 := by
  unfold V5
  rw [StableHlo.after_cons, StableHlo.after_nil]
  refine (StableHlo.unary_result _ _ _ _ _ _).trans ?_
  rw [V4_out]

end Cert.Proof.KI

end
-- ==== Proof.KI.Tile.lean ====
/-
  The gather task of one tile: the fetch of its 20 lists of 80 row numbers, then 20 indirect gathers of 80 table rows each
  into four row buffers in turn, each copied out to its chunk of the output two gathers later. The four kinds of operation
  have one lemma each; the task's run chains them in the program's order. At the end each chunk holds the rows of the
  table its list names (`G`).
-/
module

public import proofs.«01_k».proof.Proof.KI.Base

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v2_scv : Memref Cert.KernelIdeal.sig Kind.scVector Space.hbm Cert.KernelIdeal.S32x20x80 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v3_scv : Memref Cert.KernelIdeal.sig Kind.scVector Space.hbm Cert.KernelIdeal.S51200x128 EltTy.f32)
local notation "lV" => (Memref.whole Cert.KernelIdeal.cc0_scratch0 : Memref Cert.KernelIdeal.sig Kind.scVector Space.vmem Cert.KernelIdeal.S20x80 EltTy.i32)
local notation "b0V" => (Memref.whole Cert.KernelIdeal.cc0_scratch1 : Memref Cert.KernelIdeal.sig Kind.scVector Space.vmem Cert.KernelIdeal.S80x128 EltTy.f32)
local notation "b1V" => (Memref.whole Cert.KernelIdeal.cc0_scratch2 : Memref Cert.KernelIdeal.sig Kind.scVector Space.vmem Cert.KernelIdeal.S80x128 EltTy.f32)
local notation "b2V" => (Memref.whole Cert.KernelIdeal.cc0_scratch3 : Memref Cert.KernelIdeal.sig Kind.scVector Space.vmem Cert.KernelIdeal.S80x128 EltTy.f32)
local notation "b3V" => (Memref.whole Cert.KernelIdeal.cc0_scratch4 : Memref Cert.KernelIdeal.sig Kind.scVector Space.vmem Cert.KernelIdeal.S80x128 EltTy.f32)

variable (a : Inp F) (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task's number. -/
abbrev wL (L : grid0.Coords) : Fin 32 := task (Fin.cast bound_zero (L 0)) (Fin.cast bound_one (L 1))
/-- The tile's thread. -/
abbrev thr (d : Dev nD) (L : grid0.Coords) : Thread nD τ := V d (cV L) (jV L)

/-! ## The memrefs as the body spells them -/

/-- The task's block of row numbers. -/
abbrev iK (L : grid0.Coords) : Memref sig .scVector .hbm S20x80 .i32 :=
  ((iV).slice (Rect.unit (s := S32x20x80) (k0_off1 L) S1x20x80.size (k0_off1_inb L)) (fun _ => rfl)).squeeze S20x80 squeezes_S1x20x80_S20x80
/-- The whole table. -/
abbrev xK : Memref sig .scVector .hbm S100000x128 .f32 := (xV).slice (Rect.unit (s := S100000x128) ![0, 0] S100000x128.size inb_S100000x128_S100000x128_0_0) (fun _ => rfl)
theorem list_inb (r : Fin 20) : ∀ b, (![r.val, 0] : Fin 2 → ℕ) b + S1x80.size b ≤ S20x80.size b := by
  revert r; decide
/-- List `r` of the fetched row numbers. -/
abbrev lK (r : Fin 20) : Memref sig .scVector .vmem S80 .i32 :=
  ((lV).slice (Rect.unit (s := S20x80) ![r.val, 0] S1x80.size (list_inb r)) (fun _ => rfl)).squeeze S80 squeezes_S1x80_S80
/-- Chunk `r` of the task's rows of the output. -/
abbrev oK (L : grid0.Coords) (r : Fin 20) : Memref sig .scVector .hbm S80x128 .f32 :=
  (oV).slice (Rect.unit (s := S51200x128) (k0_off2 L (BitVec.ofNat 32 (80 * r.val))) S80x128.size (k0_off2_inb L r)) (fun _ => rfl)

/-- Element `x` of the task's block is at `(w, x 0, x 1)` of the row numbers. -/
theorem iK_emb (L : grid0.Coords) (x : S20x80.Idx) : (iK L).view.emb x = i3 (wL L) (x 0) (x 1) := by
  have h : ∀ y : S20x80.Idx, (((Shape.reshapeEquiv (s := S1x20x80) (s' := S20x80) squeezes_S1x20x80_S20x80.numel_eq) y 1).val = (y 0).val)
      ∧ (((Shape.reshapeEquiv (s := S1x20x80) (s' := S20x80) squeezes_S1x20x80_S20x80.numel_eq) y 2).val = (y 1).val) := by
    intro y
    rw [show Shape.reshapeEquiv (s := S1x20x80) (s' := S20x80) squeezes_S1x20x80_S20x80.numel_eq y = Fin.cons ⟨0, Nat.one_pos⟩ y from
      Shape.reshapeEquiv_cons_one (d := ![20, 80]) squeezes_S1x20x80_S20x80.numel_eq y]
    exact ⟨rfl, rfl⟩
  funext b
  apply Fin.ext
  match b with
  | 0 =>
    show k0_off1 L 0 + 1 * ((Shape.reshapeEquiv squeezes_S1x20x80_S20x80.numel_eq) x 0).val = 2 * (L 1).val + (L 0).val
    have hz : ((Shape.reshapeEquiv (s := S1x20x80) (s' := S20x80) squeezes_S1x20x80_S20x80.numel_eq) x 0).val < 1 := ((Shape.reshapeEquiv squeezes_S1x20x80_S20x80.numel_eq) x 0).isLt
    rw [k0_off1_eq]; simp; omega
  | 1 =>
    show k0_off1 L 1 + 1 * ((Shape.reshapeEquiv squeezes_S1x20x80_S20x80.numel_eq) x 1).val = (x 0).val
    rw [(h x).1, k0_off1_eq]; simp
  | 2 =>
    show k0_off1 L 2 + 1 * ((Shape.reshapeEquiv squeezes_S1x20x80_S20x80.numel_eq) x 2).val = (x 1).val
    rw [(h x).2, k0_off1_eq]; simp

/-! ## The states of the pieces -/

/-- The rows that list `r` of the task names, as a buffer of 80 rows. -/
def BV (r : Fin 20) : S80x128.Idx → Elt F .f32 := fun y => a.X d (xix (a.I d (i3 (wL L) r (y 0))) (y 1))

/-- A row buffer at some contents. -/
def AnyB (dst : Memref sig .scVector .vmem S80x128 .f32) : sProp 𝕄 :=
  iprop(∃ f, dst.view.loc (thr d L) ↦[dst.view.set]{fullShare} f)
/-- A row buffer that holds the rows of list `r`. -/
def FullB (dst : Memref sig .scVector .vmem S80x128 .f32) (r : Fin 20) : sProp 𝕄 :=
  iprop(∃ f, ⌜dst.view.read (Elt F) f = BV a d L r⌝ ∗ dst.view.loc (thr d L) ↦[dst.view.set]{fullShare} f)
/-- List `r`, fetched. -/
def LRow (r : Fin 20) : sProp 𝕄 :=
  iprop(∃ f, ⌜∀ x : S80.Idx, (lK r).view.read (Elt F) f x = a.I d (i3 (wL L) r (x 0))⌝
    ∗ (lK r).view.loc (thr d L) ↦[(lK r).view.set]{fullShare} f)
/-- A read token of the table. -/
def XTok (k : ℕ) : sProp 𝕄 := (xK).view.loc (thr d L) ↦[(xK).view.set]{Transfers.shareTokN (xq (wL L)) k} a.X d
/-- A chunk of the output at given contents. -/
def OCh (r : Fin 20) (f : Buf (Elt F) (oLoc d)) : sProp 𝕄 := (oK L r).view.loc (thr d L) ↦[(oK L r).view.set]{fullShare} f
/-- The task's row numbers. -/
def IBlk : sProp 𝕄 := (iK L).view.loc (thr d L) ↦[(iK L).view.set]{fullShare} a.I d
/-- The list buffer, at some contents. -/
def AnyL : sProp 𝕄 := iprop(∃ f, (lV).view.loc (thr d L) ↦[(lV).view.set]{fullShare} f)
/-- The list buffer with the task's lists fetched. -/
def FullL : sProp 𝕄 := iprop(∃ f, ⌜∀ x : S20x80.Idx, (lV).view.read (Elt F) f x = a.I d (i3 (wL L) (x 0) (x 1))⌝
    ∗ (lV).view.loc (thr d L) ↦[(lV).view.set]{fullShare} f)

/-- A semaphore of the tile at zero. -/
abbrev sem0 (s : DmaSem sig) : sProp 𝕄 := semVal ((thr d L, SemLoc.dma s) : GSem nD τ sig) 0
/-- A transfer in flight on a semaphore of the tile, with what its wait delivers. -/
abbrev Fl (s : DmaSem sig) (N : ℕ) (R : sProp 𝕄) : sProp 𝕄 := Transfers.Flight countersEmb (thr d L) (.dma s) (default : HIx 1) N R

/-- The bytes' worth of a row buffer, and of the list buffer, as the semaphores count them. -/
abbrev NB : ℕ := (b0V).view.dmaCredit
abbrev NL : ℕ := (lV).view.dmaCredit

/-! ## The operations -/

variable [FloatOps F]

/-- Starting a local copy on a semaphore at zero. -/
theorem start_copy {sp sp' : Space} {s : Shape} {e : EltTy} {src : Memref sig .scVector sp s e} {dst : Memref sig .scVector sp' s e} {sm : DmaSem sig}
    {h1 : src.view.WordExact} {h2 : dst.view.WordExact} {h3 : DmaTarget.Typed (nD := nD) (τ := τ) (p := Proc.scVector (cV L) (jV L)) sp (.dma sm) (.here dst)}
    {N : ℕ} (hN : dst.view.dmaCredit = N) (hN0 : 0 < N) {q : PosShare TreeShare} {fs : Buf (Elt F) (src.view.loc (thr d L))} {fd : Buf (Elt F) (dst.view.loc (thr d L))}
    {R : sProp 𝕄} {Φ : PUnit → sProp 𝕄}
    (hR : iprop((dst.view.loc (thr d L) ↦[dst.view.set]{fullShare} (dst.view.write (Elt F) fd (src.view.read (Elt F) fs) Finset.univ))
        ∗ (src.view.loc (thr d L) ↦[src.view.set]{q} fs)) ⊢ R) :
    iprop((src.view.loc (thr d L) ↦[src.view.set]{q} fs) ∗ (dst.view.loc (thr d L) ↦[dst.view.set]{fullShare} fd) ∗ sem0 d L sm)
      ⊢ iprop((Fl d L sm N R -∗ Φ ⟨⟩)
        -∗ wp frame (wpE (defs₀ (F := F)) 𝒱₀ (thr d L) none) Set.univ (Prog.lift (.enqueueDma src (.here dst) (.dma sm) h1 h2 h3)) Φ) := by
  iintro H Hk
  iapply (Transfers.wp_dmaLocal countersEmb 𝒱₀ (thr d L) none (default : HIx 1) N (show dst.view.amount (.dma sm) = N from hN) hN0 (Finset.Subset.refl _)) $$ H
  iintro Hf
  ihave Hf' := (Transfers.Flight_mono countersEmb (thr d L) hR) $$ Hf
  rw [wp_ret]
  imodintro
  iapply Hk; iexact Hf'

/-- Waiting for a transfer in flight. -/
theorem wait_copy {sp sp' : Space} {s s' : Shape} {e e' : EltTy} {src : Memref sig .scVector sp s' e'} {dst : Memref sig .scVector sp' s e} {sm : DmaSem sig}
    {h1 : src.view.WordExact} {h2 : dst.view.WordExact} {N : ℕ} (hN : dst.view.dmaCredit = N) {R : sProp 𝕄} {Φ : PUnit → sProp 𝕄}
    {O : CellTallies nD τ sig (HIx 1)} :
    iprop(Fl d L sm N R ∗ (∃ W', owes (thr d L) O W') ∗ Transfers.MayWaits (thr d L) (default : HIx 1) O)
      ⊢ iprop((iprop(R ∗ sem0 d L sm ∗ (∃ W', owes (thr d L) O W')) -∗ Φ ⟨⟩)
        -∗ wp frame (wpE (defs₀ (F := F)) 𝒱₀ (thr d L) none) Set.univ (Prog.lift (.waitDma2 sm src dst h1 h2)) Φ) := by
  iintro ⟨Hf, ⟨%W', HO⟩, #Hmw⟩ Hk
  iapply (Transfers.wp_waitLocalO countersEmb 𝒱₀ (thr d L) none (default : HIx 1) hN) $$ [Hf HO]
  · isplitl [Hf]; · iexact Hf
    isplitl [HO]; · iexact HO
    iapply (Transfers.MayWaits.elim (SemLoc.dma sm)) $$ Hmw
  iintro ⟨HR, Hs, HO⟩
  rw [wp_ret]
  imodintro
  iapply Hk
  isplitl [HR]; · iexact HR
  isplitl [Hs]; · iexact Hs
  iexists _; iexact HO

/-! ## What the transfers leave -/

theorem NB_pos : 0 < NB := by decide
theorem NL_pos : 0 < NL := by decide

omit [FloatOps F] in
/-- In a one-axis shape the index of row-major place `k` is `k`. -/
theorem rowMajor_one (k : Fin S80.numel) : ((S80.rowMajor.symm k) 0).val = k.val := by
  have h : ∀ x : S80.Idx, (S80.rowMajor x).val = (x 0).val := by decide +kernel
  rw [← h, Equiv.apply_symm_apply]

omit [FloatOps F] in
/-- The rows gathered by list `r` are `BV r`. -/
theorem gathered (ha : InOK a) (r : Fin 20) (fo : Buf (Elt F) ((lK r).view.loc (thr d L)))
    (hfo : ∀ x : S80.Idx, (lK r).view.read (Elt F) fo x = a.I d (i3 (wL L) r (x 0)))
    (hn : S80.numel = S80x128.size gathers_S100000x128_S80x128.axis')
    (hin : ∀ x, ((lK r).view.read (Elt F) fo x).toNat < S100000x128.size gathers_S100000x128_S80x128.axis) :
    SparseCore.gatherPayload gathers_S100000x128_S80x128 ((xK).view.read (Elt F) (a.X d)) (SparseCore.rows ((lK r).view.read (Elt F) fo) hn hin) = BV a d L r := by
  funext y
  unfold SparseCore.gatherPayload BV
  rw [View.read_apply]
  refine (cast_eq _ _).trans (congrArg (a.X d) ?_)
  funext b
  apply Fin.ext
  match b with
  | 0 =>
    show 0 + 1 * ((gathers_S100000x128_S80x128.idx (SparseCore.rows ((lK r).view.read (Elt F) fo) hn hin) y) 0).val = _
    rw [show ((gathers_S100000x128_S80x128.idx (SparseCore.rows ((lK r).view.read (Elt F) fo) hn hin) y) 0)
      = SparseCore.rows ((lK r).view.read (Elt F) fo) hn hin (y gathers_S100000x128_S80x128.axis') from
        Shape.Gathers.idx_axis gathers_S100000x128_S80x128 _ y]
    unfold SparseCore.rows xix
    simp only [hfo]
    rw [Nat.zero_add, Nat.one_mul]
    have e : (S80.rowMajor.symm (Fin.cast hn.symm (y gathers_S100000x128_S80x128.axis'))) 0 = y 0 := Fin.ext (rowMajor_one _)
    refine (congrArg (fun k => (a.I d (i3 (wL L) r k) : BitVec 32).toNat) e).trans ?_
    exact (Nat.mod_eq_of_lt (ha d _)).symm
  | 1 =>
    show 0 + 1 * ((gathers_S100000x128_S80x128.idx (SparseCore.rows ((lK r).view.read (Elt F) fo) hn hin) y) 1).val = (y 1).val
    rw [Shape.Gathers.idx_of_ne gathers_S100000x128_S80x128 _ y 1 (by decide)]
    simp

omit [FloatOps F] in
/-- Chunk `r` written with the rows of list `r` holds the call's result. -/
theorem stored (r : Fin 20) (fd : Buf (Elt F) (oLoc d)) (w : S80x128.Idx → Elt F .f32) (hw : w = BV a d L r) :
    ((oK L r).view.loc (thr d L) ↦[(oK L r).view.set]{fullShare} ((oK L r).view.write (Elt F) fd w Finset.univ) : sProp 𝕄) = OCh d L r (G a d) := by
  subst hw
  unfold OCh
  refine pointsTo_congr fun i hi => ?_
  obtain ⟨x, -, rfl⟩ := Finset.mem_map.mp hi
  rw [View.write_emb_of_mem _ _ (Finset.mem_univ x)]
  refine (cast_eq _ _).trans ?_
  unfold BV G
  have e0 : (((oK L r).view.emb x) 0).val = 3200 * (L 1).val + 1600 * (L 0).val + 80 * r.val + (x 0).val := by
    show k0_off2 L (BitVec.ofNat 32 (80 * r.val)) 0 + 1 * (x 0).val = _
    rw [k0_off2_eq]; simp
  have e1 : (((oK L r).view.emb x) 1) = x 1 := by
    apply Fin.ext
    show k0_off2 L (BitVec.ofNat 32 (80 * r.val)) 1 + 1 * (x 1).val = _
    rw [k0_off2_eq]; simp
  have hx : (x 0).val < 80 := (x 0).isLt
  have hr := r.isLt
  have h0 : (L 0).val < 2 := (L 0).isLt
  have h1 : (L 1).val < 16 := (L 1).isLt
  have e2 : i3of (((oK L r).view.emb x) 0) = i3 (wL L) r (x 0) := by
    unfold i3of
    congr 1 <;> apply Fin.ext
    · show (((oK L r).view.emb x) 0).val / 1600 = 2 * (L 1).val + (L 0).val
      rw [e0]; omega
    · show (((oK L r).view.emb x) 0).val % 1600 / 80 = r.val
      rw [e0]; omega
    · show (((oK L r).view.emb x) 0).val % 80 = (x 0).val
      rw [e0]; omega
  rw [e1, e2]

/-- Starting the gather by list `r` into a row buffer. -/
theorem start_gather (ha : InOK a) {dst : Memref sig .scVector .vmem S80x128 .f32} {sm : DmaSem sig}
    {hn : S80.numel = S80x128.size gathers_S100000x128_S80x128.axis'}
    {h1 : (xK).view.WordExact} {hp : (thr d L).2.kind = .scVector} {h2 : EltTy.f32.bits = 32} {h3 : Space.hbm = .hbm ∨ Space.hbm = .shared} {h4 : S100000x128.StreamRows 0}
    (r : Fin 20) (k : ℕ) (hN : ∀ h : S100000x128.Gathers 0 S80x128, ∑ j, (dst.slice (S80x128.rowRect h.axis' j) (S80x128.stride_rowRect h.axis' j)).view.dmaCredit = NB)
    {Φ : PUnit → sProp 𝕄} :
    iprop(XTok a d L k ∗ AnyB d L dst ∗ LRow a d L r ∗ sem0 d L sm)
      ⊢ iprop((Fl d L sm NB iprop(FullB a d L dst r ∗ XTok a d L k ∗ LRow a d L r) -∗ Φ ⟨⟩)
        -∗ wp frame (wpE (defs₀ (F := F)) 𝒱₀ (thr d L) none) Set.univ
            (SparseCore.enqueueIndirectGather hp (xK) dst gathers_S100000x128_S80x128 (lK r) hn sm h1 h2 h3 h4) Φ) := by
  unfold AnyB LRow
  iintro ⟨HX, ⟨%fd, HB⟩, ⟨%fo, %hfo, HL⟩, Hs⟩ Hk
  have hin : ∀ x, ((lK r).view.read (Elt F) fo x).toNat < S100000x128.size gathers_S100000x128_S80x128.axis := by
    intro x; rw [hfo]; exact ha d _
  rw [← bind_pure (SparseCore.enqueueIndirectGather hp (xK) dst gathers_S100000x128_S80x128 (lK r) hn sm h1 h2 h3 h4)]
  unfold XTok
  iapply (SparseCore.wp_indirectGatherLocal countersEmb 𝒱₀ (thr d L) none (hg := gathers_S100000x128_S80x128) (default : HIx 1)
      NB (hN _) (by decide) hin) $$ [HX HB HL Hs]
  · isplitl [HX]; · iexact HX
    isplitl [HB]; · iexact HB
    isplitl [HL]; · iexact HL
    iexact Hs
  iintro Hf
  rw [wp_pure]
  imodintro
  iapply Hk
  iapply (Transfers.Flight_mono countersEmb (thr d L) _) $$ Hf
  iintro ⟨HB, HX, HL⟩
  isplitl [HB]
  · unfold FullB
    iexists _; isplitr
    swap; · iexact HB
    ipureintro
    rw [View.read_write_univ]
    exact gathered a d L ha r fo hfo hn hin
  isplitl [HX]; · iexact HX
  iexists fo; isplitr
  · ipureintro; exact hfo
  iexact HL

omit [FloatOps F] in
theorem oK_credit (r : Fin 20) : (oK L r).view.dmaCredit = NB := rfl
theorem lV_credit : (lV).view.dmaCredit = NL := rfl

/-- Starting the copy of a filled row buffer to its chunk. -/
theorem start_store {dst : Memref sig .scVector .vmem S80x128 .f32} {sm : DmaSem sig} (r : Fin 20) {f0 : Buf (Elt F) (oLoc d)}
    {h1 : dst.view.WordExact} {h2 : (oK L r).view.WordExact}
    {h3 : DmaTarget.Typed (nD := nD) (τ := τ) (p := Proc.scVector (cV L) (jV L)) .vmem (.dma sm) (.here (oK L r))} {Φ : PUnit → sProp 𝕄} :
    iprop(FullB a d L dst r ∗ OCh d L r f0 ∗ sem0 d L sm)
      ⊢ iprop((Fl d L sm NB iprop(OCh d L r (G a d) ∗ AnyB d L dst) -∗ Φ ⟨⟩)
        -∗ wp frame (wpE (defs₀ (F := F)) 𝒱₀ (thr d L) none) Set.univ (Prog.lift (.enqueueDma dst (.here (oK L r)) (.dma sm) h1 h2 h3)) Φ) := by
  unfold FullB OCh
  iintro ⟨⟨%f, %hf, HB⟩, HO, Hs⟩ Hk
  have hR : iprop(((oK L r).view.loc (thr d L) ↦[(oK L r).view.set]{fullShare} ((oK L r).view.write (Elt F) f0 (dst.view.read (Elt F) f) Finset.univ))
        ∗ (dst.view.loc (thr d L) ↦[dst.view.set]{fullShare} f)) ⊢ (iprop(OCh d L r (G a d) ∗ AnyB d L dst) : sProp 𝕄) := by
    rw [stored a d L r f0 _ hf]
    iintro ⟨HO, HB⟩
    isplitl [HO]; · iexact HO
    unfold AnyB; iexists f; iexact HB
  iapply (start_copy d L (N := NB) (oK_credit L r) NB_pos hR) $$ [HB HO Hs]
  · isplitl [HB]; · iexact HB
    isplitl [HO]; · iexact HO
    iexact Hs
  unfold OCh
  iintro Hf; iapply Hk; iexact Hf

/-- Starting the fetch of the task's lists. -/
theorem start_fetch {sm : DmaSem sig}
    {h1 : (iK L).view.WordExact} {h2 : (lV).view.WordExact}
    {h3 : DmaTarget.Typed (nD := nD) (τ := τ) (p := Proc.scVector (cV L) (jV L)) .hbm (.dma sm) (.here (lV))} {Φ : PUnit → sProp 𝕄} :
    iprop(IBlk a d L ∗ AnyL d L ∗ sem0 d L sm)
      ⊢ iprop((Fl d L sm NL iprop(FullL a d L ∗ IBlk a d L) -∗ Φ ⟨⟩)
        -∗ wp frame (wpE (defs₀ (F := F)) 𝒱₀ (thr d L) none) Set.univ (Prog.lift (.enqueueDma (iK L) (.here (lV)) (.dma sm) h1 h2 h3)) Φ) := by
  unfold IBlk AnyL
  iintro ⟨HI, ⟨%f, HL⟩, Hs⟩ Hk
  have hR : iprop(((lV).view.loc (thr d L) ↦[(lV).view.set]{fullShare} ((lV).view.write (Elt F) f ((iK L).view.read (Elt F) (a.I d)) Finset.univ))
        ∗ ((iK L).view.loc (thr d L) ↦[(iK L).view.set]{fullShare} a.I d)) ⊢ (iprop(FullL a d L ∗ IBlk a d L) : sProp 𝕄) := by
    iintro ⟨HL, HI⟩
    isplitl [HL]
    · unfold FullL; iexists _; isplitr
      swap; · iexact HL
      ipureintro; intro x
      rw [View.read_write_univ, View.read_apply]
      refine (cast_eq _ _).trans (congrArg (a.I d) ?_)
      exact iK_emb L x
    · unfold IBlk; iexact HI
  iapply (start_copy d L (N := NL) lV_credit NL_pos hR) $$ [HI HL Hs]
  · isplitl [HI]; · iexact HI
    isplitl [HL]; · iexact HL
    iexact Hs
  unfold IBlk
  iintro Hf; iapply Hk; iexact Hf

end Cert.Proof.KI

end
-- ==== Proof.KI.Lists.lean ====
/-
  A tile's list buffer as the twenty lists its gathers read.
-/
module

public import proofs.«01_k».proof.Proof.KI.Tile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v2_scv : Memref Cert.KernelIdeal.sig Kind.scVector Space.hbm Cert.KernelIdeal.S32x20x80 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v3_scv : Memref Cert.KernelIdeal.sig Kind.scVector Space.hbm Cert.KernelIdeal.S51200x128 EltTy.f32)
local notation "lV" => (Memref.whole Cert.KernelIdeal.cc0_scratch0 : Memref Cert.KernelIdeal.sig Kind.scVector Space.vmem Cert.KernelIdeal.S20x80 EltTy.i32)
local notation "b0V" => (Memref.whole Cert.KernelIdeal.cc0_scratch1 : Memref Cert.KernelIdeal.sig Kind.scVector Space.vmem Cert.KernelIdeal.S80x128 EltTy.f32)
local notation "b1V" => (Memref.whole Cert.KernelIdeal.cc0_scratch2 : Memref Cert.KernelIdeal.sig Kind.scVector Space.vmem Cert.KernelIdeal.S80x128 EltTy.f32)
local notation "b2V" => (Memref.whole Cert.KernelIdeal.cc0_scratch3 : Memref Cert.KernelIdeal.sig Kind.scVector Space.vmem Cert.KernelIdeal.S80x128 EltTy.f32)
local notation "b3V" => (Memref.whole Cert.KernelIdeal.cc0_scratch4 : Memref Cert.KernelIdeal.sig Kind.scVector Space.vmem Cert.KernelIdeal.S80x128 EltTy.f32)

variable (a : Inp F) (d : Dev nD) (L : grid0.Coords)

/-! ## The list buffer as its twenty lists -/

/-- Twenty pieces, one after the other. -/
theorem bigSep20 (Φ : Fin 20 → sProp 𝕄) : (bigSep Finset.univ Φ : sProp 𝕄)
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  rw [show (Finset.univ : Finset (Fin 20)) = {0, 1, 2, 3, 4, 5, 6, 7, 8, 9, 10, 11, 12, 13, 14, 15, 16, 17, 18, 19} by decide]
  iterate 19 rw [SparseCore.bigSep_insert' (by decide)]
  rw [bigSep_singleton]

theorem ldiv : 20 ∣ S20x80.size 0 := ⟨1, rfl⟩
/-- The elements of list `r`. -/
abbrev lSet (r : Fin 20) : Finset S20x80.Idx := ((lV).view.slice (Rect.part (s := S20x80) (a₀ := 0) ldiv r)).set

theorem lSet_eq (r : Fin 20) : lSet r = (Rect.part (s := S20x80) (a₀ := 0) ldiv r).set := by
  show ((View.whole (cc0_scratch0 : Ref sig .scVector)).slice _).set = _
  rw [View.set_slice]; exact Finset.map_refl
theorem lSet_disjoint : ∀ i ∈ (Finset.univ : Finset (Fin 20)), ∀ j ∈ (Finset.univ : Finset (Fin 20)), i ≠ j → Disjoint (lSet i) (lSet j) :=
  fun i _ j _ h => by rw [lSet_eq, lSet_eq]; exact Rect.part_disjoint ldiv h
theorem lSet_cover : (Finset.univ : Finset (Fin 20)).biUnion lSet = Finset.univ :=
  (Finset.biUnion_congr rfl fun i _ => lSet_eq i).trans (Rect.biUnion_part ldiv)

theorem set_lK (r : Fin 20) : (lK r).view.set = lSet r := by
  show (((lV).view.slice (Rect.unit (s := S20x80) ![r.val, 0] S1x80.size (list_inb r))).reshape S80 squeezes_S1x80_S80.numel_eq).set = _
  rw [View.set_reshape]
  have h : Rect.unit (s := S20x80) ![r.val, 0] S1x80.size (list_inb r) = Rect.part (s := S20x80) (a₀ := 0) ldiv r := by
    unfold Rect.part Rect.block
    congr 1 <;> funext b
    · match b with
      | 0 => simp [Shape.partIx, Shape.partSize]
      | 1 => simp [Shape.partIx, Shape.partSize]
    · match b with
      | 0 => simp [Shape.partSize]
      | 1 => simp [Shape.partSize]
  show ((View.whole (cc0_scratch0 : Ref sig .scVector)).slice _).set = _
  rw [lSet_eq, View.set_slice, ← h]; exact Finset.map_refl

/-- The fetched list buffer is its twenty lists. -/
theorem lists_split : (FullL a d L : sProp 𝕄) ⊢ bigSep Finset.univ fun r => LRow a d L r := by
  have hs : ∀ (f : Buf (Elt F) ((lV).view.loc (thr d L))), (∀ x, (lV).view.read (Elt F) f x = a.I d (i3 (wL L) (x 0) (x 1))) →
      ∀ r ∈ (Finset.univ : Finset (Fin 20)), ((lV).view.loc (thr d L) ↦[lSet r]{fullShare} f) ⊢ (LRow a d L r : sProp 𝕄) := by
    intro f hf r _
    unfold LRow
    rw [set_lK]
    iintro H
    iexists f; isplitr
    · ipureintro; intro x
      have hx : Shape.reshapeEquiv (s := S1x80) (s' := S80) squeezes_S1x80_S80.numel_eq x = Fin.cons ⟨0, Nat.one_pos⟩ x :=
        Shape.reshapeEquiv_cons_one (d := ![80]) squeezes_S1x80_S80.numel_eq x
      have hr : (lK r).view.read (Elt F) f x = (lV).view.read (Elt F) f ((Rect.unit (s := S20x80) ![r.val, 0] S1x80.size (list_inb r)).emb
          (Shape.reshapeEquiv (s := S1x80) (s' := S80) squeezes_S1x80_S80.numel_eq x)) := rfl
      rw [hr, hf, hx]
      congr 2; apply Fin.ext
      show 0 + 1 * (x 0).val = (x 0).val
      omega
    iexact H
  have key : ∀ (f : Buf (Elt F) ((lV).view.loc (thr d L))), (∀ x, (lV).view.read (Elt F) f x = a.I d (i3 (wL L) (x 0) (x 1))) →
      ((lV).view.loc (thr d L) ↦[(lV).view.set]{fullShare} f) ⊢ (bigSep Finset.univ fun r => LRow a d L r : sProp 𝕄) := by
    intro f hf
    have hw : (lV).view.set = Finset.univ := View.set_whole _
    rw [hw, ← lSet_cover]
    exact (Entails.of_eq (pointsTo_biUnion Finset.univ (ℓ := (lV).view.loc (thr d L)) (q := fullShare) (f := f) lSet lSet_disjoint)).trans
      (bigSep_mono (hs f hf))
  unfold FullL
  iintro ⟨%f, %hf, H⟩
  iapply (key f hf) $$ H

/-- Disjoint pieces of one buffer, each at some contents, are their union at some contents. -/
theorem join_some {n : ℕ} {ℓ : Loc nD τ sig} (v0 : Buf (Elt F) ℓ) (S : Fin n → Finset ℓ.ty.Idx)
    (hS : ∀ i ∈ (Finset.univ : Finset (Fin n)), ∀ j ∈ (Finset.univ : Finset (Fin n)), i ≠ j → Disjoint (S i) (S j)) :
    (bigSep Finset.univ fun r => iprop(∃ f, ℓ ↦[S r]{fullShare} f) : sProp 𝕄) ⊢ iprop(∃ f, ℓ ↦[Finset.univ.biUnion S]{fullShare} f) := by
  haveI : Nonempty (Buf (Elt F) ℓ) := ⟨v0⟩
  refine (bigSep_exists_pi (Y := fun _ : Fin n => Buf (Elt F) ℓ) Finset.univ (fun r f => iprop(ℓ ↦[S r]{fullShare} f))).trans ?_
  iintro ⟨%fs, H⟩
  ihave H' := (pointsTo_biUnion_join (ℓ := ℓ) (q := fullShare) (Val := Elt F) Finset.univ S fs v0 hS) $$ H
  icases H' with ⟨%g, -, Hg⟩
  iexists g; iexact Hg

/-- Twenty lists, whatever they hold, are the list buffer. -/
theorem lists_join : (bigSep Finset.univ fun r => LRow a d L r : sProp 𝕄) ⊢ AnyL d L := by
  have h1 : ∀ r ∈ (Finset.univ : Finset (Fin 20)), (LRow a d L r : sProp 𝕄) ⊢ iprop(∃ f, (lV).view.loc (thr d L) ↦[lSet r]{fullShare} f) := by
    intro r _
    unfold LRow
    rw [set_lK]
    iintro ⟨%f, -, H⟩
    iexists f; iexact H
  refine (bigSep_mono h1).trans ?_
  have hj := join_some (F := F) (ℓ := (lV).view.loc (thr d L)) (fun _ => (0#32 : BitVec 32)) lSet lSet_disjoint
  have hw : (lV).view.set = Finset.univ := View.set_whole _
  rw [lSet_cover, ← hw] at hj
  exact hj

end Cert.Proof.KI

end
-- ==== Proof.KI.TileRun.lean ====
/-
  The run of the gather task of one tile: the operations of the tile's program in their order, from the pieces the launch
  deals the tile to the same pieces with the chunks of the output holding the call's result.
-/
module

public import proofs.«01_k».proof.Proof.KI.Lists

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v2_scv : Memref Cert.KernelIdeal.sig Kind.scVector Space.hbm Cert.KernelIdeal.S32x20x80 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v3_scv : Memref Cert.KernelIdeal.sig Kind.scVector Space.hbm Cert.KernelIdeal.S51200x128 EltTy.f32)
local notation "lV" => (Memref.whole Cert.KernelIdeal.cc0_scratch0 : Memref Cert.KernelIdeal.sig Kind.scVector Space.vmem Cert.KernelIdeal.S20x80 EltTy.i32)
local notation "b0V" => (Memref.whole Cert.KernelIdeal.cc0_scratch1 : Memref Cert.KernelIdeal.sig Kind.scVector Space.vmem Cert.KernelIdeal.S80x128 EltTy.f32)
local notation "b1V" => (Memref.whole Cert.KernelIdeal.cc0_scratch2 : Memref Cert.KernelIdeal.sig Kind.scVector Space.vmem Cert.KernelIdeal.S80x128 EltTy.f32)
local notation "b2V" => (Memref.whole Cert.KernelIdeal.cc0_scratch3 : Memref Cert.KernelIdeal.sig Kind.scVector Space.vmem Cert.KernelIdeal.S80x128 EltTy.f32)
local notation "b3V" => (Memref.whole Cert.KernelIdeal.cc0_scratch4 : Memref Cert.KernelIdeal.sig Kind.scVector Space.vmem Cert.KernelIdeal.S80x128 EltTy.f32)

variable (a : Inp F) (d : Dev nD) (L : grid0.Coords)

/-! ## The run -/

/-- The tile's semaphores at zero. -/
def Sems : sProp 𝕄 :=
  iprop(sem0 d L cc0_scoped0.sem ∗ sem0 d L cc0_scratch5.sem ∗ sem0 d L cc0_scratch6.sem ∗ sem0 d L cc0_scratch7.sem ∗ sem0 d L cc0_scratch8.sem
    ∗ sem0 d L cc0_scratch9.sem ∗ sem0 d L cc0_scratch10.sem ∗ sem0 d L cc0_scratch11.sem ∗ sem0 d L cc0_scratch12.sem)
/-- The tile's scratch buffers, at some contents. -/
def Bufs : sProp 𝕄 := iprop(AnyL d L ∗ AnyB d L (b0V) ∗ AnyB d L (b1V) ∗ AnyB d L (b2V) ∗ AnyB d L (b3V))
/-- The task's pieces, the output's at `f`. -/
def Pieces (f : Buf (Elt F) (oLoc d)) : sProp 𝕄 :=
  iprop(IBlk a d L ∗ (XTok a d L 0 ∗ XTok a d L 1 ∗ XTok a d L 2 ∗ XTok a d L 3) ∗ bigSep Finset.univ fun r => OCh d L r f)

variable [FloatOps F]

/-- Waiting for a gather in flight. -/
theorem wait_gather {sm : DmaSem sig} {dst : Memref sig .scVector .vmem S80x128 .f32}
    {h1 : (xK).view.WordExact} {h2 : dst.view.WordExact} {N : ℕ} (hN : dst.view.dmaCredit = N) {R : sProp 𝕄} {Φ : PUnit → sProp 𝕄}
    {O : CellTallies nD τ sig (HIx 1)} :
    iprop(Fl d L sm N R ∗ (∃ W', owes (thr d L) O W') ∗ Transfers.MayWaits (thr d L) (default : HIx 1) O)
      ⊢ iprop((iprop(R ∗ sem0 d L sm ∗ (∃ W', owes (thr d L) O W')) -∗ Φ ⟨⟩)
        -∗ wp frame (wpE (defs₀ (F := F)) 𝒱₀ (thr d L) none) Set.univ (SparseCore.waitIndirectGather sm (xK) dst h1 h2) Φ) :=
  wait_copy d L hN

theorem hC0 : (b0V).view.dmaCredit = NB := rfl
theorem hC1 : (b1V).view.dmaCredit = NB := rfl
theorem hC2 : (b2V).view.dmaCredit = NB := rfl
theorem hC3 : (b3V).view.dmaCredit = NB := rfl

theorem hN0 : ∀ h : S100000x128.Gathers 0 S80x128, ∑ j, ((b0V).slice (S80x128.rowRect h.axis' j) (S80x128.stride_rowRect h.axis' j)).view.dmaCredit = NB := by decide
theorem hN1 : ∀ h : S100000x128.Gathers 0 S80x128, ∑ j, ((b1V).slice (S80x128.rowRect h.axis' j) (S80x128.stride_rowRect h.axis' j)).view.dmaCredit = NB := by decide
theorem hN2 : ∀ h : S100000x128.Gathers 0 S80x128, ∑ j, ((b2V).slice (S80x128.rowRect h.axis' j) (S80x128.stride_rowRect h.axis' j)).view.dmaCredit = NB := by decide
theorem hN3 : ∀ h : S100000x128.Gathers 0 S80x128, ∑ j, ((b3V).slice (S80x128.rowRect h.axis' j) (S80x128.stride_rowRect h.axis' j)).view.dmaCredit = NB := by decide

set_option maxHeartbeats 2000000 in
set_option maxRecDepth 16384 in
/-- Part 1 of the tile's program. -/
theorem part1 (ha : InOK a) (O : CellTallies nD τ sig (HIx 1)) (Φ : BitVec 32 → sProp 𝕄) :
    iprop(Transfers.MayWaits (thr d L) (default : HIx 1) O ∗ (AnyB d L (b0V)) ∗ (XTok a d L 0) ∗ (sem0 d L cc0_scratch5.sem) ∗ (AnyB d L (b1V)) ∗ (XTok a d L 1) ∗ (sem0 d L cc0_scratch6.sem) ∗ (AnyB d L (b2V)) ∗ (XTok a d L 2) ∗ (sem0 d L cc0_scratch7.sem) ∗ (IBlk a d L) ∗ (AnyL d L) ∗ (sem0 d L cc0_scoped0.sem) ∗ (∃ W', owes (thr d L) O W'))
      ⊢ iprop((∀ v, iprop((IBlk a d L) ∗ (sem0 d L cc0_scoped0.sem) ∗ (LRow a d L 3) ∗ (LRow a d L 4) ∗ (LRow a d L 5) ∗ (LRow a d L 6) ∗ (LRow a d L 7) ∗ (LRow a d L 8) ∗ (LRow a d L 9) ∗ (LRow a d L 10) ∗ (LRow a d L 11) ∗ (LRow a d L 12) ∗ (LRow a d L 13) ∗ (LRow a d L 14) ∗ (LRow a d L 15) ∗ (LRow a d L 16) ∗ (LRow a d L 17) ∗ (LRow a d L 18) ∗ (LRow a d L 19) ∗ (Fl d L cc0_scratch6.sem NB iprop(FullB a d L (b1V) 1 ∗ XTok a d L 1 ∗ LRow a d L 1)) ∗ (Fl d L cc0_scratch7.sem NB iprop(FullB a d L (b2V) 2 ∗ XTok a d L 2 ∗ LRow a d L 2)) ∗ (sem0 d L cc0_scratch5.sem) ∗ (FullB a d L (b0V) 0) ∗ (XTok a d L 0) ∗ (LRow a d L 0) ∗ (∃ W', owes (thr d L) O W')) -∗ Φ v)
        -∗ wp frame (wpE (defs₀ (F := F)) 𝒱₀ (thr d L) none) Set.univ
          (k0_part1 L iV (Memref.isWhole_whole _) xV (Memref.isWhole_whole _) oV (Memref.isWhole_whole _)
            lV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0) Φ) := by
  rw [k0_part1_eq_skeleton]; unfold k0_part1_skel
  simp only [wp_bind, wp_pure]
  iintro ⟨#Hmw, HB0, HX0, HG0, HB1, HX1, HG1, HB2, HX2, HG2, HI, HLL, HC, HW⟩ Hk
  iapply (start_fetch a d L (sm := cc0_scoped0.sem)) $$ [HI HLL HC]
  · isplitl [HI]; · iexact HI
    isplitl [HLL]; · iexact HLL
    iexact HC
  iintro HC
  iapply (wait_copy d L (sm := cc0_scoped0.sem) (dst := lV) (N := NL) lV_credit) $$ [HC HW]
  · isplitl [HC]; · iexact HC
    isplitl [HW]; · iexact HW
    iexact Hmw
  iintro ⟨⟨HLL, HI⟩, HC, HW⟩
  ihave HLL' := (lists_split a d L) $$ HLL
  ihave HLL2 := (Entails.of_eq (bigSep20 (fun r => LRow a d L r))) $$ HLL'
  icases HLL2 with ⟨HL0, HL1, HL2, HL3, HL4, HL5, HL6, HL7, HL8, HL9, HL10, HL11, HL12, HL13, HL14, HL15, HL16, HL17, HL18, HL19⟩
  -- gather 0
  iapply (start_gather a d L ha (sm := cc0_scratch5.sem) (dst := b0V) 0 0 hN0) $$ [HX0 HB0 HL0 HG0]
  · isplitl [HX0]; · iexact HX0
    isplitl [HB0]; · iexact HB0
    isplitl [HL0]; · iexact HL0
    iexact HG0
  iintro HG0
  -- gather 1
  iapply (start_gather a d L ha (sm := cc0_scratch6.sem) (dst := b1V) 1 1 hN1) $$ [HX1 HB1 HL1 HG1]
  · isplitl [HX1]; · iexact HX1
    isplitl [HB1]; · iexact HB1
    isplitl [HL1]; · iexact HL1
    iexact HG1
  iintro HG1
  -- gather 2
  iapply (start_gather a d L ha (sm := cc0_scratch7.sem) (dst := b2V) 2 2 hN2) $$ [HX2 HB2 HL2 HG2]
  · isplitl [HX2]; · iexact HX2
    isplitl [HB2]; · iexact HB2
    isplitl [HL2]; · iexact HL2
    iexact HG2
  iintro HG2
  -- gather 0 done
  iapply (wait_gather d L (sm := cc0_scratch5.sem) (dst := b0V) (N := NB) hC0) $$ [HG0 HW]
  · isplitl [HG0]; · iexact HG0
    isplitl [HW]; · iexact HW
    iexact Hmw
  iintro ⟨⟨HB0, HX0, HL0⟩, HG0, HW⟩
  imodintro
  iapply Hk
  isplitl [HI]; · iexact HI
  isplitl [HC]; · iexact HC
  isplitl [HL3]; · iexact HL3
  isplitl [HL4]; · iexact HL4
  isplitl [HL5]; · iexact HL5
  isplitl [HL6]; · iexact HL6
  isplitl [HL7]; · iexact HL7
  isplitl [HL8]; · iexact HL8
  isplitl [HL9]; · iexact HL9
  isplitl [HL10]; · iexact HL10
  isplitl [HL11]; · iexact HL11
  isplitl [HL12]; · iexact HL12
  isplitl [HL13]; · iexact HL13
  isplitl [HL14]; · iexact HL14
  isplitl [HL15]; · iexact HL15
  isplitl [HL16]; · iexact HL16
  isplitl [HL17]; · iexact HL17
  isplitl [HL18]; · iexact HL18
  isplitl [HL19]; · iexact HL19
  isplitl [HG1]; · iexact HG1
  isplitl [HG2]; · iexact HG2
  isplitl [HG0]; · iexact HG0
  isplitl [HB0]; · iexact HB0
  isplitl [HX0]; · iexact HX0
  isplitl [HL0]; · iexact HL0
  iexact HW

set_option maxHeartbeats 2000000 in
set_option maxRecDepth 16384 in
/-- Part 2 of the tile's program. -/
theorem part2 (ha : InOK a) (O : CellTallies nD τ sig (HIx 1)) (v : BitVec 32) (Φ : PUnit → sProp 𝕄) :
    iprop(Transfers.MayWaits (thr d L) (default : HIx 1) O ∗ (sem0 d L cc0_scratch9.sem) ∗ (sem0 d L cc0_scratch10.sem) ∗ (sem0 d L cc0_scratch11.sem) ∗ (AnyB d L (b3V)) ∗ (XTok a d L 3) ∗ (sem0 d L cc0_scratch8.sem) ∗ (OCh d L 0 (a.O d)) ∗ (OCh d L 1 (a.O d)) ∗ (OCh d L 2 (a.O d)) ∗ (LRow a d L 3) ∗ (LRow a d L 4) ∗ (Fl d L cc0_scratch6.sem NB iprop(FullB a d L (b1V) 1 ∗ XTok a d L 1 ∗ LRow a d L 1)) ∗ (Fl d L cc0_scratch7.sem NB iprop(FullB a d L (b2V) 2 ∗ XTok a d L 2 ∗ LRow a d L 2)) ∗ (sem0 d L cc0_scratch5.sem) ∗ (FullB a d L (b0V) 0) ∗ (XTok a d L 0) ∗ (∃ W', owes (thr d L) O W'))
      ⊢ iprop((iprop((Fl d L cc0_scratch8.sem NB iprop(FullB a d L (b3V) 3 ∗ XTok a d L 3 ∗ LRow a d L 3)) ∗ (sem0 d L cc0_scratch6.sem) ∗ (XTok a d L 1) ∗ (LRow a d L 1) ∗ (sem0 d L cc0_scratch9.sem) ∗ (OCh d L 0 (G a d)) ∗ (Fl d L cc0_scratch5.sem NB iprop(FullB a d L (b0V) 4 ∗ XTok a d L 0 ∗ LRow a d L 4)) ∗ (sem0 d L cc0_scratch7.sem) ∗ (XTok a d L 2) ∗ (LRow a d L 2) ∗ (Fl d L cc0_scratch11.sem NB iprop(OCh d L 2 (G a d) ∗ AnyB d L (b2V))) ∗ (sem0 d L cc0_scratch10.sem) ∗ (OCh d L 1 (G a d)) ∗ (AnyB d L (b1V)) ∗ (∃ W', owes (thr d L) O W')) -∗ Φ ⟨⟩)
        -∗ wp frame (wpE (defs₀ (F := F)) 𝒱₀ (thr d L) none) Set.univ
          (k0_part2 L iV (Memref.isWhole_whole _) xV (Memref.isWhole_whole _) oV (Memref.isWhole_whole _)
            lV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v) Φ) := by
  rw [k0_part2_eq_skeleton]; unfold k0_part2_skel
  simp only [wp_bind, wp_pure]
  iintro ⟨#Hmw, HS0, HS1, HS2, HB3, HX3, HG3, HO0, HO1, HO2, HL3, HL4, HG1, HG2, HG0, HB0, HX0, HW⟩ Hk
  -- copy 0
  iapply (start_store a d L (sm := cc0_scratch9.sem) (dst := b0V) 0) $$ [HB0 HO0 HS0]
  · isplitl [HB0]; · iexact HB0
    isplitl [HO0]; · iexact HO0
    iexact HS0
  iintro HS0
  -- gather 3
  iapply (start_gather a d L ha (sm := cc0_scratch8.sem) (dst := b3V) 3 3 hN3) $$ [HX3 HB3 HL3 HG3]
  · isplitl [HX3]; · iexact HX3
    isplitl [HB3]; · iexact HB3
    isplitl [HL3]; · iexact HL3
    iexact HG3
  iintro HG3
  -- gather 1 done
  iapply (wait_gather d L (sm := cc0_scratch6.sem) (dst := b1V) (N := NB) hC1) $$ [HG1 HW]
  · isplitl [HG1]; · iexact HG1
    isplitl [HW]; · iexact HW
    iexact Hmw
  iintro ⟨⟨HB1, HX1, HL1⟩, HG1, HW⟩
  -- copy 1
  iapply (start_store a d L (sm := cc0_scratch10.sem) (dst := b1V) 1) $$ [HB1 HO1 HS1]
  · isplitl [HB1]; · iexact HB1
    isplitl [HO1]; · iexact HO1
    iexact HS1
  iintro HS1
  -- copy 0 done
  iapply (wait_copy d L (sm := cc0_scratch9.sem) (dst := oK L 0) (N := NB) (oK_credit L 0)) $$ [HS0 HW]
  · isplitl [HS0]; · iexact HS0
    isplitl [HW]; · iexact HW
    iexact Hmw
  iintro ⟨⟨HO0, HB0⟩, HS0, HW⟩
  -- gather 4
  iapply (start_gather a d L ha (sm := cc0_scratch5.sem) (dst := b0V) 4 0 hN0) $$ [HX0 HB0 HL4 HG0]
  · isplitl [HX0]; · iexact HX0
    isplitl [HB0]; · iexact HB0
    isplitl [HL4]; · iexact HL4
    iexact HG0
  iintro HG0
  -- gather 2 done
  iapply (wait_gather d L (sm := cc0_scratch7.sem) (dst := b2V) (N := NB) hC2) $$ [HG2 HW]
  · isplitl [HG2]; · iexact HG2
    isplitl [HW]; · iexact HW
    iexact Hmw
  iintro ⟨⟨HB2, HX2, HL2⟩, HG2, HW⟩
  -- copy 2
  iapply (start_store a d L (sm := cc0_scratch11.sem) (dst := b2V) 2) $$ [HB2 HO2 HS2]
  · isplitl [HB2]; · iexact HB2
    isplitl [HO2]; · iexact HO2
    iexact HS2
  iintro HS2
  -- copy 1 done
  iapply (wait_copy d L (sm := cc0_scratch10.sem) (dst := oK L 1) (N := NB) (oK_credit L 1)) $$ [HS1 HW]
  · isplitl [HS1]; · iexact HS1
    isplitl [HW]; · iexact HW
    iexact Hmw
  iintro ⟨⟨HO1, HB1⟩, HS1, HW⟩
  imodintro
  iapply Hk
  isplitl [HG3]; · iexact HG3
  isplitl [HG1]; · iexact HG1
  isplitl [HX1]; · iexact HX1
  isplitl [HL1]; · iexact HL1
  isplitl [HS0]; · iexact HS0
  isplitl [HO0]; · iexact HO0
  isplitl [HG0]; · iexact HG0
  isplitl [HG2]; · iexact HG2
  isplitl [HX2]; · iexact HX2
  isplitl [HL2]; · iexact HL2
  isplitl [HS2]; · iexact HS2
  isplitl [HS1]; · iexact HS1
  isplitl [HO1]; · iexact HO1
  isplitl [HB1]; · iexact HB1
  iexact HW

set_option maxHeartbeats 2000000 in
set_option maxRecDepth 16384 in
/-- Part 3 of the tile's program. -/
theorem part3 (ha : InOK a) (O : CellTallies nD τ sig (HIx 1)) (v : BitVec 32) (Φ : PUnit → sProp 𝕄) :
    iprop(Transfers.MayWaits (thr d L) (default : HIx 1) O ∗ (sem0 d L cc0_scratch12.sem) ∗ (OCh d L 3 (a.O d)) ∗ (OCh d L 4 (a.O d)) ∗ (LRow a d L 5) ∗ (LRow a d L 6) ∗ (Fl d L cc0_scratch8.sem NB iprop(FullB a d L (b3V) 3 ∗ XTok a d L 3 ∗ LRow a d L 3)) ∗ (sem0 d L cc0_scratch6.sem) ∗ (XTok a d L 1) ∗ (sem0 d L cc0_scratch9.sem) ∗ (Fl d L cc0_scratch5.sem NB iprop(FullB a d L (b0V) 4 ∗ XTok a d L 0 ∗ LRow a d L 4)) ∗ (sem0 d L cc0_scratch7.sem) ∗ (XTok a d L 2) ∗ (Fl d L cc0_scratch11.sem NB iprop(OCh d L 2 (G a d) ∗ AnyB d L (b2V))) ∗ (AnyB d L (b1V)) ∗ (∃ W', owes (thr d L) O W'))
      ⊢ iprop((iprop((Fl d L cc0_scratch6.sem NB iprop(FullB a d L (b1V) 5 ∗ XTok a d L 1 ∗ LRow a d L 5)) ∗ (sem0 d L cc0_scratch8.sem) ∗ (XTok a d L 3) ∗ (LRow a d L 3) ∗ (sem0 d L cc0_scratch11.sem) ∗ (OCh d L 2 (G a d)) ∗ (Fl d L cc0_scratch7.sem NB iprop(FullB a d L (b2V) 6 ∗ XTok a d L 2 ∗ LRow a d L 6)) ∗ (sem0 d L cc0_scratch5.sem) ∗ (XTok a d L 0) ∗ (LRow a d L 4) ∗ (Fl d L cc0_scratch9.sem NB iprop(OCh d L 4 (G a d) ∗ AnyB d L (b0V))) ∗ (sem0 d L cc0_scratch12.sem) ∗ (OCh d L 3 (G a d)) ∗ (AnyB d L (b3V)) ∗ (∃ W', owes (thr d L) O W')) -∗ Φ ⟨⟩)
        -∗ wp frame (wpE (defs₀ (F := F)) 𝒱₀ (thr d L) none) Set.univ
          (k0_part3 L iV (Memref.isWhole_whole _) xV (Memref.isWhole_whole _) oV (Memref.isWhole_whole _)
            lV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v) Φ) := by
  rw [k0_part3_eq_skeleton]; unfold k0_part3_skel
  simp only [wp_bind, wp_pure]
  iintro ⟨#Hmw, HS3, HO3, HO4, HL5, HL6, HG3, HG1, HX1, HS0, HG0, HG2, HX2, HS2, HB1, HW⟩ Hk
  -- gather 5
  iapply (start_gather a d L ha (sm := cc0_scratch6.sem) (dst := b1V) 5 1 hN1) $$ [HX1 HB1 HL5 HG1]
  · isplitl [HX1]; · iexact HX1
    isplitl [HB1]; · iexact HB1
    isplitl [HL5]; · iexact HL5
    iexact HG1
  iintro HG1
  -- gather 3 done
  iapply (wait_gather d L (sm := cc0_scratch8.sem) (dst := b3V) (N := NB) hC3) $$ [HG3 HW]
  · isplitl [HG3]; · iexact HG3
    isplitl [HW]; · iexact HW
    iexact Hmw
  iintro ⟨⟨HB3, HX3, HL3⟩, HG3, HW⟩
  -- copy 3
  iapply (start_store a d L (sm := cc0_scratch12.sem) (dst := b3V) 3) $$ [HB3 HO3 HS3]
  · isplitl [HB3]; · iexact HB3
    isplitl [HO3]; · iexact HO3
    iexact HS3
  iintro HS3
  -- copy 2 done
  iapply (wait_copy d L (sm := cc0_scratch11.sem) (dst := oK L 2) (N := NB) (oK_credit L 2)) $$ [HS2 HW]
  · isplitl [HS2]; · iexact HS2
    isplitl [HW]; · iexact HW
    iexact Hmw
  iintro ⟨⟨HO2, HB2⟩, HS2, HW⟩
  -- gather 6
  iapply (start_gather a d L ha (sm := cc0_scratch7.sem) (dst := b2V) 6 2 hN2) $$ [HX2 HB2 HL6 HG2]
  · isplitl [HX2]; · iexact HX2
    isplitl [HB2]; · iexact HB2
    isplitl [HL6]; · iexact HL6
    iexact HG2
  iintro HG2
  -- gather 4 done
  iapply (wait_gather d L (sm := cc0_scratch5.sem) (dst := b0V) (N := NB) hC0) $$ [HG0 HW]
  · isplitl [HG0]; · iexact HG0
    isplitl [HW]; · iexact HW
    iexact Hmw
  iintro ⟨⟨HB0, HX0, HL4⟩, HG0, HW⟩
  -- copy 4
  iapply (start_store a d L (sm := cc0_scratch9.sem) (dst := b0V) 4) $$ [HB0 HO4 HS0]
  · isplitl [HB0]; · iexact HB0
    isplitl [HO4]; · iexact HO4
    iexact HS0
  iintro HS0
  -- copy 3 done
  iapply (wait_copy d L (sm := cc0_scratch12.sem) (dst := oK L 3) (N := NB) (oK_credit L 3)) $$ [HS3 HW]
  · isplitl [HS3]; · iexact HS3
    isplitl [HW]; · iexact HW
    iexact Hmw
  iintro ⟨⟨HO3, HB3⟩, HS3, HW⟩
  imodintro
  iapply Hk
  isplitl [HG1]; · iexact HG1
  isplitl [HG3]; · iexact HG3
  isplitl [HX3]; · iexact HX3
  isplitl [HL3]; · iexact HL3
  isplitl [HS2]; · iexact HS2
  isplitl [HO2]; · iexact HO2
  isplitl [HG2]; · iexact HG2
  isplitl [HG0]; · iexact HG0
  isplitl [HX0]; · iexact HX0
  isplitl [HL4]; · iexact HL4
  isplitl [HS0]; · iexact HS0
  isplitl [HS3]; · iexact HS3
  isplitl [HO3]; · iexact HO3
  isplitl [HB3]; · iexact HB3
  iexact HW

set_option maxHeartbeats 2000000 in
set_option maxRecDepth 16384 in
/-- Part 4 of the tile's program. -/
theorem part4 (ha : InOK a) (O : CellTallies nD τ sig (HIx 1)) (v : BitVec 32) (Φ : PUnit → sProp 𝕄) :
    iprop(Transfers.MayWaits (thr d L) (default : HIx 1) O ∗ (OCh d L 5 (a.O d)) ∗ (OCh d L 6 (a.O d)) ∗ (LRow a d L 7) ∗ (LRow a d L 8) ∗ (LRow a d L 9) ∗ (sem0 d L cc0_scratch10.sem) ∗ (Fl d L cc0_scratch6.sem NB iprop(FullB a d L (b1V) 5 ∗ XTok a d L 1 ∗ LRow a d L 5)) ∗ (sem0 d L cc0_scratch8.sem) ∗ (XTok a d L 3) ∗ (sem0 d L cc0_scratch11.sem) ∗ (Fl d L cc0_scratch7.sem NB iprop(FullB a d L (b2V) 6 ∗ XTok a d L 2 ∗ LRow a d L 6)) ∗ (sem0 d L cc0_scratch5.sem) ∗ (XTok a d L 0) ∗ (Fl d L cc0_scratch9.sem NB iprop(OCh d L 4 (G a d) ∗ AnyB d L (b0V))) ∗ (AnyB d L (b3V)) ∗ (∃ W', owes (thr d L) O W'))
      ⊢ iprop((iprop((Fl d L cc0_scratch8.sem NB iprop(FullB a d L (b3V) 7 ∗ XTok a d L 3 ∗ LRow a d L 7)) ∗ (LRow a d L 5) ∗ (sem0 d L cc0_scratch9.sem) ∗ (OCh d L 4 (G a d)) ∗ (Fl d L cc0_scratch5.sem NB iprop(FullB a d L (b0V) 8 ∗ XTok a d L 0 ∗ LRow a d L 8)) ∗ (sem0 d L cc0_scratch7.sem) ∗ (XTok a d L 2) ∗ (LRow a d L 6) ∗ (Fl d L cc0_scratch11.sem NB iprop(OCh d L 6 (G a d) ∗ AnyB d L (b2V))) ∗ (sem0 d L cc0_scratch10.sem) ∗ (OCh d L 5 (G a d)) ∗ (Fl d L cc0_scratch6.sem NB iprop(FullB a d L (b1V) 9 ∗ XTok a d L 1 ∗ LRow a d L 9)) ∗ (∃ W', owes (thr d L) O W')) -∗ Φ ⟨⟩)
        -∗ wp frame (wpE (defs₀ (F := F)) 𝒱₀ (thr d L) none) Set.univ
          (k0_part4 L iV (Memref.isWhole_whole _) xV (Memref.isWhole_whole _) oV (Memref.isWhole_whole _)
            lV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v) Φ) := by
  rw [k0_part4_eq_skeleton]; unfold k0_part4_skel
  simp only [wp_bind, wp_pure]
  iintro ⟨#Hmw, HO5, HO6, HL7, HL8, HL9, HS1, HG1, HG3, HX3, HS2, HG2, HG0, HX0, HS0, HB3, HW⟩ Hk
  -- gather 7
  iapply (start_gather a d L ha (sm := cc0_scratch8.sem) (dst := b3V) 7 3 hN3) $$ [HX3 HB3 HL7 HG3]
  · isplitl [HX3]; · iexact HX3
    isplitl [HB3]; · iexact HB3
    isplitl [HL7]; · iexact HL7
    iexact HG3
  iintro HG3
  -- gather 5 done
  iapply (wait_gather d L (sm := cc0_scratch6.sem) (dst := b1V) (N := NB) hC1) $$ [HG1 HW]
  · isplitl [HG1]; · iexact HG1
    isplitl [HW]; · iexact HW
    iexact Hmw
  iintro ⟨⟨HB1, HX1, HL5⟩, HG1, HW⟩
  -- copy 5
  iapply (start_store a d L (sm := cc0_scratch10.sem) (dst := b1V) 5) $$ [HB1 HO5 HS1]
  · isplitl [HB1]; · iexact HB1
    isplitl [HO5]; · iexact HO5
    iexact HS1
  iintro HS1
  -- copy 4 done
  iapply (wait_copy d L (sm := cc0_scratch9.sem) (dst := oK L 4) (N := NB) (oK_credit L 4)) $$ [HS0 HW]
  · isplitl [HS0]; · iexact HS0
    isplitl [HW]; · iexact HW
    iexact Hmw
  iintro ⟨⟨HO4, HB0⟩, HS0, HW⟩
  -- gather 8
  iapply (start_gather a d L ha (sm := cc0_scratch5.sem) (dst := b0V) 8 0 hN0) $$ [HX0 HB0 HL8 HG0]
  · isplitl [HX0]; · iexact HX0
    isplitl [HB0]; · iexact HB0
    isplitl [HL8]; · iexact HL8
    iexact HG0
  iintro HG0
  -- gather 6 done
  iapply (wait_gather d L (sm := cc0_scratch7.sem) (dst := b2V) (N := NB) hC2) $$ [HG2 HW]
  · isplitl [HG2]; · iexact HG2
    isplitl [HW]; · iexact HW
    iexact Hmw
  iintro ⟨⟨HB2, HX2, HL6⟩, HG2, HW⟩
  -- copy 6
  iapply (start_store a d L (sm := cc0_scratch11.sem) (dst := b2V) 6) $$ [HB2 HO6 HS2]
  · isplitl [HB2]; · iexact HB2
    isplitl [HO6]; · iexact HO6
    iexact HS2
  iintro HS2
  -- copy 5 done
  iapply (wait_copy d L (sm := cc0_scratch10.sem) (dst := oK L 5) (N := NB) (oK_credit L 5)) $$ [HS1 HW]
  · isplitl [HS1]; · iexact HS1
    isplitl [HW]; · iexact HW
    iexact Hmw
  iintro ⟨⟨HO5, HB1⟩, HS1, HW⟩
  -- gather 9
  iapply (start_gather a d L ha (sm := cc0_scratch6.sem) (dst := b1V) 9 1 hN1) $$ [HX1 HB1 HL9 HG1]
  · isplitl [HX1]; · iexact HX1
    isplitl [HB1]; · iexact HB1
    isplitl [HL9]; · iexact HL9
    iexact HG1
  iintro HG1
  imodintro
  iapply Hk
  isplitl [HG3]; · iexact HG3
  isplitl [HL5]; · iexact HL5
  isplitl [HS0]; · iexact HS0
  isplitl [HO4]; · iexact HO4
  isplitl [HG0]; · iexact HG0
  isplitl [HG2]; · iexact HG2
  isplitl [HX2]; · iexact HX2
  isplitl [HL6]; · iexact HL6
  isplitl [HS2]; · iexact HS2
  isplitl [HS1]; · iexact HS1
  isplitl [HO5]; · iexact HO5
  isplitl [HG1]; · iexact HG1
  iexact HW

set_option maxHeartbeats 2000000 in
set_option maxRecDepth 16384 in
/-- Part 5 of the tile's program. -/
theorem part5 (ha : InOK a) (O : CellTallies nD τ sig (HIx 1)) (v : BitVec 32) (Φ : PUnit → sProp 𝕄) :
    iprop(Transfers.MayWaits (thr d L) (default : HIx 1) O ∗ (OCh d L 7 (a.O d)) ∗ (OCh d L 8 (a.O d)) ∗ (LRow a d L 10) ∗ (LRow a d L 11) ∗ (sem0 d L cc0_scratch12.sem) ∗ (Fl d L cc0_scratch8.sem NB iprop(FullB a d L (b3V) 7 ∗ XTok a d L 3 ∗ LRow a d L 7)) ∗ (sem0 d L cc0_scratch9.sem) ∗ (Fl d L cc0_scratch5.sem NB iprop(FullB a d L (b0V) 8 ∗ XTok a d L 0 ∗ LRow a d L 8)) ∗ (sem0 d L cc0_scratch7.sem) ∗ (XTok a d L 2) ∗ (Fl d L cc0_scratch11.sem NB iprop(OCh d L 6 (G a d) ∗ AnyB d L (b2V))) ∗ (∃ W', owes (thr d L) O W'))
      ⊢ iprop((iprop((LRow a d L 7) ∗ (sem0 d L cc0_scratch11.sem) ∗ (OCh d L 6 (G a d)) ∗ (Fl d L cc0_scratch7.sem NB iprop(FullB a d L (b2V) 10 ∗ XTok a d L 2 ∗ LRow a d L 10)) ∗ (sem0 d L cc0_scratch5.sem) ∗ (XTok a d L 0) ∗ (LRow a d L 8) ∗ (Fl d L cc0_scratch9.sem NB iprop(OCh d L 8 (G a d) ∗ AnyB d L (b0V))) ∗ (sem0 d L cc0_scratch12.sem) ∗ (OCh d L 7 (G a d)) ∗ (Fl d L cc0_scratch8.sem NB iprop(FullB a d L (b3V) 11 ∗ XTok a d L 3 ∗ LRow a d L 11)) ∗ (∃ W', owes (thr d L) O W')) -∗ Φ ⟨⟩)
        -∗ wp frame (wpE (defs₀ (F := F)) 𝒱₀ (thr d L) none) Set.univ
          (k0_part5 L iV (Memref.isWhole_whole _) xV (Memref.isWhole_whole _) oV (Memref.isWhole_whole _)
            lV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v) Φ) := by
  rw [k0_part5_eq_skeleton]; unfold k0_part5_skel
  simp only [wp_bind, wp_pure]
  iintro ⟨#Hmw, HO7, HO8, HL10, HL11, HS3, HG3, HS0, HG0, HG2, HX2, HS2, HW⟩ Hk
  -- gather 7 done
  iapply (wait_gather d L (sm := cc0_scratch8.sem) (dst := b3V) (N := NB) hC3) $$ [HG3 HW]
  · isplitl [HG3]; · iexact HG3
    isplitl [HW]; · iexact HW
    iexact Hmw
  iintro ⟨⟨HB3, HX3, HL7⟩, HG3, HW⟩
  -- copy 7
  iapply (start_store a d L (sm := cc0_scratch12.sem) (dst := b3V) 7) $$ [HB3 HO7 HS3]
  · isplitl [HB3]; · iexact HB3
    isplitl [HO7]; · iexact HO7
    iexact HS3
  iintro HS3
  -- copy 6 done
  iapply (wait_copy d L (sm := cc0_scratch11.sem) (dst := oK L 6) (N := NB) (oK_credit L 6)) $$ [HS2 HW]
  · isplitl [HS2]; · iexact HS2
    isplitl [HW]; · iexact HW
    iexact Hmw
  iintro ⟨⟨HO6, HB2⟩, HS2, HW⟩
  -- gather 10
  iapply (start_gather a d L ha (sm := cc0_scratch7.sem) (dst := b2V) 10 2 hN2) $$ [HX2 HB2 HL10 HG2]
  · isplitl [HX2]; · iexact HX2
    isplitl [HB2]; · iexact HB2
    isplitl [HL10]; · iexact HL10
    iexact HG2
  iintro HG2
  -- gather 8 done
  iapply (wait_gather d L (sm := cc0_scratch5.sem) (dst := b0V) (N := NB) hC0) $$ [HG0 HW]
  · isplitl [HG0]; · iexact HG0
    isplitl [HW]; · iexact HW
    iexact Hmw
  iintro ⟨⟨HB0, HX0, HL8⟩, HG0, HW⟩
  -- copy 8
  iapply (start_store a d L (sm := cc0_scratch9.sem) (dst := b0V) 8) $$ [HB0 HO8 HS0]
  · isplitl [HB0]; · iexact HB0
    isplitl [HO8]; · iexact HO8
    iexact HS0
  iintro HS0
  -- copy 7 done
  iapply (wait_copy d L (sm := cc0_scratch12.sem) (dst := oK L 7) (N := NB) (oK_credit L 7)) $$ [HS3 HW]
  · isplitl [HS3]; · iexact HS3
    isplitl [HW]; · iexact HW
    iexact Hmw
  iintro ⟨⟨HO7, HB3⟩, HS3, HW⟩
  -- gather 11
  iapply (start_gather a d L ha (sm := cc0_scratch8.sem) (dst := b3V) 11 3 hN3) $$ [HX3 HB3 HL11 HG3]
  · isplitl [HX3]; · iexact HX3
    isplitl [HB3]; · iexact HB3
    isplitl [HL11]; · iexact HL11
    iexact HG3
  iintro HG3
  imodintro
  iapply Hk
  isplitl [HL7]; · iexact HL7
  isplitl [HS2]; · iexact HS2
  isplitl [HO6]; · iexact HO6
  isplitl [HG2]; · iexact HG2
  isplitl [HG0]; · iexact HG0
  isplitl [HX0]; · iexact HX0
  isplitl [HL8]; · iexact HL8
  isplitl [HS0]; · iexact HS0
  isplitl [HS3]; · iexact HS3
  isplitl [HO7]; · iexact HO7
  isplitl [HG3]; · iexact HG3
  iexact HW

set_option maxHeartbeats 2000000 in
set_option maxRecDepth 16384 in
/-- Part 6 of the tile's program. -/
theorem part6 (ha : InOK a) (O : CellTallies nD τ sig (HIx 1)) (v : BitVec 32) (Φ : PUnit → sProp 𝕄) :
    iprop(Transfers.MayWaits (thr d L) (default : HIx 1) O ∗ (OCh d L 9 (a.O d)) ∗ (OCh d L 10 (a.O d)) ∗ (LRow a d L 12) ∗ (LRow a d L 13) ∗ (sem0 d L cc0_scratch10.sem) ∗ (Fl d L cc0_scratch6.sem NB iprop(FullB a d L (b1V) 9 ∗ XTok a d L 1 ∗ LRow a d L 9)) ∗ (sem0 d L cc0_scratch11.sem) ∗ (Fl d L cc0_scratch7.sem NB iprop(FullB a d L (b2V) 10 ∗ XTok a d L 2 ∗ LRow a d L 10)) ∗ (sem0 d L cc0_scratch5.sem) ∗ (XTok a d L 0) ∗ (Fl d L cc0_scratch9.sem NB iprop(OCh d L 8 (G a d) ∗ AnyB d L (b0V))) ∗ (Fl d L cc0_scratch8.sem NB iprop(FullB a d L (b3V) 11 ∗ XTok a d L 3 ∗ LRow a d L 11)) ∗ (∃ W', owes (thr d L) O W'))
      ⊢ iprop((iprop((LRow a d L 9) ∗ (sem0 d L cc0_scratch9.sem) ∗ (OCh d L 8 (G a d)) ∗ (Fl d L cc0_scratch5.sem NB iprop(FullB a d L (b0V) 12 ∗ XTok a d L 0 ∗ LRow a d L 12)) ∗ (sem0 d L cc0_scratch7.sem) ∗ (XTok a d L 2) ∗ (LRow a d L 10) ∗ (Fl d L cc0_scratch11.sem NB iprop(OCh d L 10 (G a d) ∗ AnyB d L (b2V))) ∗ (sem0 d L cc0_scratch10.sem) ∗ (OCh d L 9 (G a d)) ∗ (Fl d L cc0_scratch6.sem NB iprop(FullB a d L (b1V) 13 ∗ XTok a d L 1 ∗ LRow a d L 13)) ∗ (sem0 d L cc0_scratch8.sem) ∗ (FullB a d L (b3V) 11) ∗ (XTok a d L 3) ∗ (LRow a d L 11) ∗ (∃ W', owes (thr d L) O W')) -∗ Φ ⟨⟩)
        -∗ wp frame (wpE (defs₀ (F := F)) 𝒱₀ (thr d L) none) Set.univ
          (k0_part6 L iV (Memref.isWhole_whole _) xV (Memref.isWhole_whole _) oV (Memref.isWhole_whole _)
            lV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v) Φ) := by
  rw [k0_part6_eq_skeleton]; unfold k0_part6_skel
  simp only [wp_bind, wp_pure]
  iintro ⟨#Hmw, HO9, HO10, HL12, HL13, HS1, HG1, HS2, HG2, HG0, HX0, HS0, HG3, HW⟩ Hk
  -- gather 9 done
  iapply (wait_gather d L (sm := cc0_scratch6.sem) (dst := b1V) (N := NB) hC1) $$ [HG1 HW]
  · isplitl [HG1]; · iexact HG1
    isplitl [HW]; · iexact HW
    iexact Hmw
  iintro ⟨⟨HB1, HX1, HL9⟩, HG1, HW⟩
  -- copy 9
  iapply (start_store a d L (sm := cc0_scratch10.sem) (dst := b1V) 9) $$ [HB1 HO9 HS1]
  · isplitl [HB1]; · iexact HB1
    isplitl [HO9]; · iexact HO9
    iexact HS1
  iintro HS1
  -- copy 8 done
  iapply (wait_copy d L (sm := cc0_scratch9.sem) (dst := oK L 8) (N := NB) (oK_credit L 8)) $$ [HS0 HW]
  · isplitl [HS0]; · iexact HS0
    isplitl [HW]; · iexact HW
    iexact Hmw
  iintro ⟨⟨HO8, HB0⟩, HS0, HW⟩
  -- gather 12
  iapply (start_gather a d L ha (sm := cc0_scratch5.sem) (dst := b0V) 12 0 hN0) $$ [HX0 HB0 HL12 HG0]
  · isplitl [HX0]; · iexact HX0
    isplitl [HB0]; · iexact HB0
    isplitl [HL12]; · iexact HL12
    iexact HG0
  iintro HG0
  -- gather 10 done
  iapply (wait_gather d L (sm := cc0_scratch7.sem) (dst := b2V) (N := NB) hC2) $$ [HG2 HW]
  · isplitl [HG2]; · iexact HG2
    isplitl [HW]; · iexact HW
    iexact Hmw
  iintro ⟨⟨HB2, HX2, HL10⟩, HG2, HW⟩
  -- copy 10
  iapply (start_store a d L (sm := cc0_scratch11.sem) (dst := b2V) 10) $$ [HB2 HO10 HS2]
  · isplitl [HB2]; · iexact HB2
    isplitl [HO10]; · iexact HO10
    iexact HS2
  iintro HS2
  -- copy 9 done
  iapply (wait_copy d L (sm := cc0_scratch10.sem) (dst := oK L 9) (N := NB) (oK_credit L 9)) $$ [HS1 HW]
  · isplitl [HS1]; · iexact HS1
    isplitl [HW]; · iexact HW
    iexact Hmw
  iintro ⟨⟨HO9, HB1⟩, HS1, HW⟩
  -- gather 13
  iapply (start_gather a d L ha (sm := cc0_scratch6.sem) (dst := b1V) 13 1 hN1) $$ [HX1 HB1 HL13 HG1]
  · isplitl [HX1]; · iexact HX1
    isplitl [HB1]; · iexact HB1
    isplitl [HL13]; · iexact HL13
    iexact HG1
  iintro HG1
  -- gather 11 done
  iapply (wait_gather d L (sm := cc0_scratch8.sem) (dst := b3V) (N := NB) hC3) $$ [HG3 HW]
  · isplitl [HG3]; · iexact HG3
    isplitl [HW]; · iexact HW
    iexact Hmw
  iintro ⟨⟨HB3, HX3, HL11⟩, HG3, HW⟩
  imodintro
  iapply Hk
  isplitl [HL9]; · iexact HL9
  isplitl [HS0]; · iexact HS0
  isplitl [HO8]; · iexact HO8
  isplitl [HG0]; · iexact HG0
  isplitl [HG2]; · iexact HG2
  isplitl [HX2]; · iexact HX2
  isplitl [HL10]; · iexact HL10
  isplitl [HS2]; · iexact HS2
  isplitl [HS1]; · iexact HS1
  isplitl [HO9]; · iexact HO9
  isplitl [HG1]; · iexact HG1
  isplitl [HG3]; · iexact HG3
  isplitl [HB3]; · iexact HB3
  isplitl [HX3]; · iexact HX3
  isplitl [HL11]; · iexact HL11
  iexact HW

set_option maxHeartbeats 2000000 in
set_option maxRecDepth 16384 in
/-- Part 7 of the tile's program. -/
theorem part7 (ha : InOK a) (O : CellTallies nD τ sig (HIx 1)) (v : BitVec 32) (Φ : PUnit → sProp 𝕄) :
    iprop(Transfers.MayWaits (thr d L) (default : HIx 1) O ∗ (OCh d L 11 (a.O d)) ∗ (OCh d L 12 (a.O d)) ∗ (LRow a d L 14) ∗ (LRow a d L 15) ∗ (sem0 d L cc0_scratch12.sem) ∗ (sem0 d L cc0_scratch9.sem) ∗ (Fl d L cc0_scratch5.sem NB iprop(FullB a d L (b0V) 12 ∗ XTok a d L 0 ∗ LRow a d L 12)) ∗ (sem0 d L cc0_scratch7.sem) ∗ (XTok a d L 2) ∗ (Fl d L cc0_scratch11.sem NB iprop(OCh d L 10 (G a d) ∗ AnyB d L (b2V))) ∗ (Fl d L cc0_scratch6.sem NB iprop(FullB a d L (b1V) 13 ∗ XTok a d L 1 ∗ LRow a d L 13)) ∗ (sem0 d L cc0_scratch8.sem) ∗ (FullB a d L (b3V) 11) ∗ (XTok a d L 3) ∗ (∃ W', owes (thr d L) O W'))
      ⊢ iprop((iprop((sem0 d L cc0_scratch11.sem) ∗ (OCh d L 10 (G a d)) ∗ (Fl d L cc0_scratch7.sem NB iprop(FullB a d L (b2V) 14 ∗ XTok a d L 2 ∗ LRow a d L 14)) ∗ (sem0 d L cc0_scratch5.sem) ∗ (XTok a d L 0) ∗ (LRow a d L 12) ∗ (Fl d L cc0_scratch9.sem NB iprop(OCh d L 12 (G a d) ∗ AnyB d L (b0V))) ∗ (sem0 d L cc0_scratch12.sem) ∗ (OCh d L 11 (G a d)) ∗ (Fl d L cc0_scratch8.sem NB iprop(FullB a d L (b3V) 15 ∗ XTok a d L 3 ∗ LRow a d L 15)) ∗ (sem0 d L cc0_scratch6.sem) ∗ (FullB a d L (b1V) 13) ∗ (XTok a d L 1) ∗ (LRow a d L 13) ∗ (∃ W', owes (thr d L) O W')) -∗ Φ ⟨⟩)
        -∗ wp frame (wpE (defs₀ (F := F)) 𝒱₀ (thr d L) none) Set.univ
          (k0_part7 L iV (Memref.isWhole_whole _) xV (Memref.isWhole_whole _) oV (Memref.isWhole_whole _)
            lV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v) Φ) := by
  rw [k0_part7_eq_skeleton]; unfold k0_part7_skel
  simp only [wp_bind, wp_pure]
  iintro ⟨#Hmw, HO11, HO12, HL14, HL15, HS3, HS0, HG0, HG2, HX2, HS2, HG1, HG3, HB3, HX3, HW⟩ Hk
  -- copy 11
  iapply (start_store a d L (sm := cc0_scratch12.sem) (dst := b3V) 11) $$ [HB3 HO11 HS3]
  · isplitl [HB3]; · iexact HB3
    isplitl [HO11]; · iexact HO11
    iexact HS3
  iintro HS3
  -- copy 10 done
  iapply (wait_copy d L (sm := cc0_scratch11.sem) (dst := oK L 10) (N := NB) (oK_credit L 10)) $$ [HS2 HW]
  · isplitl [HS2]; · iexact HS2
    isplitl [HW]; · iexact HW
    iexact Hmw
  iintro ⟨⟨HO10, HB2⟩, HS2, HW⟩
  -- gather 14
  iapply (start_gather a d L ha (sm := cc0_scratch7.sem) (dst := b2V) 14 2 hN2) $$ [HX2 HB2 HL14 HG2]
  · isplitl [HX2]; · iexact HX2
    isplitl [HB2]; · iexact HB2
    isplitl [HL14]; · iexact HL14
    iexact HG2
  iintro HG2
  -- gather 12 done
  iapply (wait_gather d L (sm := cc0_scratch5.sem) (dst := b0V) (N := NB) hC0) $$ [HG0 HW]
  · isplitl [HG0]; · iexact HG0
    isplitl [HW]; · iexact HW
    iexact Hmw
  iintro ⟨⟨HB0, HX0, HL12⟩, HG0, HW⟩
  -- copy 12
  iapply (start_store a d L (sm := cc0_scratch9.sem) (dst := b0V) 12) $$ [HB0 HO12 HS0]
  · isplitl [HB0]; · iexact HB0
    isplitl [HO12]; · iexact HO12
    iexact HS0
  iintro HS0
  -- copy 11 done
  iapply (wait_copy d L (sm := cc0_scratch12.sem) (dst := oK L 11) (N := NB) (oK_credit L 11)) $$ [HS3 HW]
  · isplitl [HS3]; · iexact HS3
    isplitl [HW]; · iexact HW
    iexact Hmw
  iintro ⟨⟨HO11, HB3⟩, HS3, HW⟩
  -- gather 15
  iapply (start_gather a d L ha (sm := cc0_scratch8.sem) (dst := b3V) 15 3 hN3) $$ [HX3 HB3 HL15 HG3]
  · isplitl [HX3]; · iexact HX3
    isplitl [HB3]; · iexact HB3
    isplitl [HL15]; · iexact HL15
    iexact HG3
  iintro HG3
  -- gather 13 done
  iapply (wait_gather d L (sm := cc0_scratch6.sem) (dst := b1V) (N := NB) hC1) $$ [HG1 HW]
  · isplitl [HG1]; · iexact HG1
    isplitl [HW]; · iexact HW
    iexact Hmw
  iintro ⟨⟨HB1, HX1, HL13⟩, HG1, HW⟩
  imodintro
  iapply Hk
  isplitl [HS2]; · iexact HS2
  isplitl [HO10]; · iexact HO10
  isplitl [HG2]; · iexact HG2
  isplitl [HG0]; · iexact HG0
  isplitl [HX0]; · iexact HX0
  isplitl [HL12]; · iexact HL12
  isplitl [HS0]; · iexact HS0
  isplitl [HS3]; · iexact HS3
  isplitl [HO11]; · iexact HO11
  isplitl [HG3]; · iexact HG3
  isplitl [HG1]; · iexact HG1
  isplitl [HB1]; · iexact HB1
  isplitl [HX1]; · iexact HX1
  isplitl [HL13]; · iexact HL13
  iexact HW

set_option maxHeartbeats 2000000 in
set_option maxRecDepth 16384 in
/-- Part 8 of the tile's program. -/
theorem part8 (ha : InOK a) (O : CellTallies nD τ sig (HIx 1)) (v : BitVec 32) (Φ : PUnit → sProp 𝕄) :
    iprop(Transfers.MayWaits (thr d L) (default : HIx 1) O ∗ (OCh d L 13 (a.O d)) ∗ (OCh d L 14 (a.O d)) ∗ (OCh d L 15 (a.O d)) ∗ (LRow a d L 16) ∗ (LRow a d L 17) ∗ (sem0 d L cc0_scratch10.sem) ∗ (sem0 d L cc0_scratch11.sem) ∗ (Fl d L cc0_scratch7.sem NB iprop(FullB a d L (b2V) 14 ∗ XTok a d L 2 ∗ LRow a d L 14)) ∗ (sem0 d L cc0_scratch5.sem) ∗ (XTok a d L 0) ∗ (Fl d L cc0_scratch9.sem NB iprop(OCh d L 12 (G a d) ∗ AnyB d L (b0V))) ∗ (sem0 d L cc0_scratch12.sem) ∗ (Fl d L cc0_scratch8.sem NB iprop(FullB a d L (b3V) 15 ∗ XTok a d L 3 ∗ LRow a d L 15)) ∗ (sem0 d L cc0_scratch6.sem) ∗ (FullB a d L (b1V) 13) ∗ (XTok a d L 1) ∗ (∃ W', owes (thr d L) O W'))
      ⊢ iprop((iprop((sem0 d L cc0_scratch9.sem) ∗ (OCh d L 12 (G a d)) ∗ (Fl d L cc0_scratch5.sem NB iprop(FullB a d L (b0V) 16 ∗ XTok a d L 0 ∗ LRow a d L 16)) ∗ (sem0 d L cc0_scratch7.sem) ∗ (XTok a d L 2) ∗ (LRow a d L 14) ∗ (Fl d L cc0_scratch11.sem NB iprop(OCh d L 14 (G a d) ∗ AnyB d L (b2V))) ∗ (sem0 d L cc0_scratch10.sem) ∗ (OCh d L 13 (G a d)) ∗ (Fl d L cc0_scratch6.sem NB iprop(FullB a d L (b1V) 17 ∗ XTok a d L 1 ∗ LRow a d L 17)) ∗ (sem0 d L cc0_scratch8.sem) ∗ (XTok a d L 3) ∗ (LRow a d L 15) ∗ (Fl d L cc0_scratch12.sem NB iprop(OCh d L 15 (G a d) ∗ AnyB d L (b3V))) ∗ (∃ W', owes (thr d L) O W')) -∗ Φ ⟨⟩)
        -∗ wp frame (wpE (defs₀ (F := F)) 𝒱₀ (thr d L) none) Set.univ
          (k0_part8 L iV (Memref.isWhole_whole _) xV (Memref.isWhole_whole _) oV (Memref.isWhole_whole _)
            lV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v) Φ) := by
  rw [k0_part8_eq_skeleton]; unfold k0_part8_skel
  simp only [wp_bind, wp_pure]
  iintro ⟨#Hmw, HO13, HO14, HO15, HL16, HL17, HS1, HS2, HG2, HG0, HX0, HS0, HS3, HG3, HG1, HB1, HX1, HW⟩ Hk
  -- copy 13
  iapply (start_store a d L (sm := cc0_scratch10.sem) (dst := b1V) 13) $$ [HB1 HO13 HS1]
  · isplitl [HB1]; · iexact HB1
    isplitl [HO13]; · iexact HO13
    iexact HS1
  iintro HS1
  -- copy 12 done
  iapply (wait_copy d L (sm := cc0_scratch9.sem) (dst := oK L 12) (N := NB) (oK_credit L 12)) $$ [HS0 HW]
  · isplitl [HS0]; · iexact HS0
    isplitl [HW]; · iexact HW
    iexact Hmw
  iintro ⟨⟨HO12, HB0⟩, HS0, HW⟩
  -- gather 16
  iapply (start_gather a d L ha (sm := cc0_scratch5.sem) (dst := b0V) 16 0 hN0) $$ [HX0 HB0 HL16 HG0]
  · isplitl [HX0]; · iexact HX0
    isplitl [HB0]; · iexact HB0
    isplitl [HL16]; · iexact HL16
    iexact HG0
  iintro HG0
  -- gather 14 done
  iapply (wait_gather d L (sm := cc0_scratch7.sem) (dst := b2V) (N := NB) hC2) $$ [HG2 HW]
  · isplitl [HG2]; · iexact HG2
    isplitl [HW]; · iexact HW
    iexact Hmw
  iintro ⟨⟨HB2, HX2, HL14⟩, HG2, HW⟩
  -- copy 14
  iapply (start_store a d L (sm := cc0_scratch11.sem) (dst := b2V) 14) $$ [HB2 HO14 HS2]
  · isplitl [HB2]; · iexact HB2
    isplitl [HO14]; · iexact HO14
    iexact HS2
  iintro HS2
  -- copy 13 done
  iapply (wait_copy d L (sm := cc0_scratch10.sem) (dst := oK L 13) (N := NB) (oK_credit L 13)) $$ [HS1 HW]
  · isplitl [HS1]; · iexact HS1
    isplitl [HW]; · iexact HW
    iexact Hmw
  iintro ⟨⟨HO13, HB1⟩, HS1, HW⟩
  -- gather 17
  iapply (start_gather a d L ha (sm := cc0_scratch6.sem) (dst := b1V) 17 1 hN1) $$ [HX1 HB1 HL17 HG1]
  · isplitl [HX1]; · iexact HX1
    isplitl [HB1]; · iexact HB1
    isplitl [HL17]; · iexact HL17
    iexact HG1
  iintro HG1
  -- gather 15 done
  iapply (wait_gather d L (sm := cc0_scratch8.sem) (dst := b3V) (N := NB) hC3) $$ [HG3 HW]
  · isplitl [HG3]; · iexact HG3
    isplitl [HW]; · iexact HW
    iexact Hmw
  iintro ⟨⟨HB3, HX3, HL15⟩, HG3, HW⟩
  -- copy 15
  iapply (start_store a d L (sm := cc0_scratch12.sem) (dst := b3V) 15) $$ [HB3 HO15 HS3]
  · isplitl [HB3]; · iexact HB3
    isplitl [HO15]; · iexact HO15
    iexact HS3
  iintro HS3
  imodintro
  iapply Hk
  isplitl [HS0]; · iexact HS0
  isplitl [HO12]; · iexact HO12
  isplitl [HG0]; · iexact HG0
  isplitl [HG2]; · iexact HG2
  isplitl [HX2]; · iexact HX2
  isplitl [HL14]; · iexact HL14
  isplitl [HS2]; · iexact HS2
  isplitl [HS1]; · iexact HS1
  isplitl [HO13]; · iexact HO13
  isplitl [HG1]; · iexact HG1
  isplitl [HG3]; · iexact HG3
  isplitl [HX3]; · iexact HX3
  isplitl [HL15]; · iexact HL15
  isplitl [HS3]; · iexact HS3
  iexact HW

set_option maxHeartbeats 2000000 in
set_option maxRecDepth 16384 in
/-- Part 9 of the tile's program. -/
theorem part9 (ha : InOK a) (O : CellTallies nD τ sig (HIx 1)) (v : BitVec 32) (Φ : PUnit → sProp 𝕄) :
    iprop(Transfers.MayWaits (thr d L) (default : HIx 1) O ∗ (OCh d L 16 (a.O d)) ∗ (OCh d L 17 (a.O d)) ∗ (LRow a d L 18) ∗ (LRow a d L 19) ∗ (sem0 d L cc0_scratch9.sem) ∗ (Fl d L cc0_scratch5.sem NB iprop(FullB a d L (b0V) 16 ∗ XTok a d L 0 ∗ LRow a d L 16)) ∗ (sem0 d L cc0_scratch7.sem) ∗ (XTok a d L 2) ∗ (Fl d L cc0_scratch11.sem NB iprop(OCh d L 14 (G a d) ∗ AnyB d L (b2V))) ∗ (sem0 d L cc0_scratch10.sem) ∗ (Fl d L cc0_scratch6.sem NB iprop(FullB a d L (b1V) 17 ∗ XTok a d L 1 ∗ LRow a d L 17)) ∗ (sem0 d L cc0_scratch8.sem) ∗ (XTok a d L 3) ∗ (Fl d L cc0_scratch12.sem NB iprop(OCh d L 15 (G a d) ∗ AnyB d L (b3V))) ∗ (∃ W', owes (thr d L) O W'))
      ⊢ iprop((iprop((sem0 d L cc0_scratch11.sem) ∗ (OCh d L 14 (G a d)) ∗ (Fl d L cc0_scratch7.sem NB iprop(FullB a d L (b2V) 18 ∗ XTok a d L 2 ∗ LRow a d L 18)) ∗ (sem0 d L cc0_scratch5.sem) ∗ (XTok a d L 0) ∗ (LRow a d L 16) ∗ (Fl d L cc0_scratch9.sem NB iprop(OCh d L 16 (G a d) ∗ AnyB d L (b0V))) ∗ (sem0 d L cc0_scratch12.sem) ∗ (OCh d L 15 (G a d)) ∗ (Fl d L cc0_scratch8.sem NB iprop(FullB a d L (b3V) 19 ∗ XTok a d L 3 ∗ LRow a d L 19)) ∗ (sem0 d L cc0_scratch6.sem) ∗ (XTok a d L 1) ∗ (LRow a d L 17) ∗ (Fl d L cc0_scratch10.sem NB iprop(OCh d L 17 (G a d) ∗ AnyB d L (b1V))) ∗ (∃ W', owes (thr d L) O W')) -∗ Φ ⟨⟩)
        -∗ wp frame (wpE (defs₀ (F := F)) 𝒱₀ (thr d L) none) Set.univ
          (k0_part9 L iV (Memref.isWhole_whole _) xV (Memref.isWhole_whole _) oV (Memref.isWhole_whole _)
            lV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v) Φ) := by
  rw [k0_part9_eq_skeleton]; unfold k0_part9_skel
  simp only [wp_bind, wp_pure]
  iintro ⟨#Hmw, HO16, HO17, HL18, HL19, HS0, HG0, HG2, HX2, HS2, HS1, HG1, HG3, HX3, HS3, HW⟩ Hk
  -- copy 14 done
  iapply (wait_copy d L (sm := cc0_scratch11.sem) (dst := oK L 14) (N := NB) (oK_credit L 14)) $$ [HS2 HW]
  · isplitl [HS2]; · iexact HS2
    isplitl [HW]; · iexact HW
    iexact Hmw
  iintro ⟨⟨HO14, HB2⟩, HS2, HW⟩
  -- gather 18
  iapply (start_gather a d L ha (sm := cc0_scratch7.sem) (dst := b2V) 18 2 hN2) $$ [HX2 HB2 HL18 HG2]
  · isplitl [HX2]; · iexact HX2
    isplitl [HB2]; · iexact HB2
    isplitl [HL18]; · iexact HL18
    iexact HG2
  iintro HG2
  -- gather 16 done
  iapply (wait_gather d L (sm := cc0_scratch5.sem) (dst := b0V) (N := NB) hC0) $$ [HG0 HW]
  · isplitl [HG0]; · iexact HG0
    isplitl [HW]; · iexact HW
    iexact Hmw
  iintro ⟨⟨HB0, HX0, HL16⟩, HG0, HW⟩
  -- copy 16
  iapply (start_store a d L (sm := cc0_scratch9.sem) (dst := b0V) 16) $$ [HB0 HO16 HS0]
  · isplitl [HB0]; · iexact HB0
    isplitl [HO16]; · iexact HO16
    iexact HS0
  iintro HS0
  -- copy 15 done
  iapply (wait_copy d L (sm := cc0_scratch12.sem) (dst := oK L 15) (N := NB) (oK_credit L 15)) $$ [HS3 HW]
  · isplitl [HS3]; · iexact HS3
    isplitl [HW]; · iexact HW
    iexact Hmw
  iintro ⟨⟨HO15, HB3⟩, HS3, HW⟩
  -- gather 19
  iapply (start_gather a d L ha (sm := cc0_scratch8.sem) (dst := b3V) 19 3 hN3) $$ [HX3 HB3 HL19 HG3]
  · isplitl [HX3]; · iexact HX3
    isplitl [HB3]; · iexact HB3
    isplitl [HL19]; · iexact HL19
    iexact HG3
  iintro HG3
  -- gather 17 done
  iapply (wait_gather d L (sm := cc0_scratch6.sem) (dst := b1V) (N := NB) hC1) $$ [HG1 HW]
  · isplitl [HG1]; · iexact HG1
    isplitl [HW]; · iexact HW
    iexact Hmw
  iintro ⟨⟨HB1, HX1, HL17⟩, HG1, HW⟩
  -- copy 17
  iapply (start_store a d L (sm := cc0_scratch10.sem) (dst := b1V) 17) $$ [HB1 HO17 HS1]
  · isplitl [HB1]; · iexact HB1
    isplitl [HO17]; · iexact HO17
    iexact HS1
  iintro HS1
  imodintro
  iapply Hk
  isplitl [HS2]; · iexact HS2
  isplitl [HO14]; · iexact HO14
  isplitl [HG2]; · iexact HG2
  isplitl [HG0]; · iexact HG0
  isplitl [HX0]; · iexact HX0
  isplitl [HL16]; · iexact HL16
  isplitl [HS0]; · iexact HS0
  isplitl [HS3]; · iexact HS3
  isplitl [HO15]; · iexact HO15
  isplitl [HG3]; · iexact HG3
  isplitl [HG1]; · iexact HG1
  isplitl [HX1]; · iexact HX1
  isplitl [HL17]; · iexact HL17
  isplitl [HS1]; · iexact HS1
  iexact HW

set_option maxHeartbeats 4000000 in
set_option maxRecDepth 16384 in
/-- The tile's run: each chunk of the output ends with the rows its list names. -/
theorem tile_run (ha : InOK a) (O : CellTallies nD τ sig (HIx 1)) :
    iprop(Transfers.MayWaits (thr d L) (default : HIx 1) O ∗ Pieces a d L (a.O d) ∗ Bufs d L ∗ Sems d L ∗ (∃ W', owes (thr d L) O W'))
      ⊢ wp frame (wpE (defs₀ (F := F)) 𝒱₀ (thr d L) none) Set.univ
          (cc0_gk L iV (Memref.isWhole_whole _) xV (Memref.isWhole_whole _) oV (Memref.isWhole_whole _)
            lV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop(Pieces a d L (G a d) ∗ Bufs d L ∗ Sems d L ∗ (∃ W', owes (thr d L) O W')) := by
  rw [cc0_gk_eq_skeleton]; unfold cc0_gk_skel
  simp only [wp_bind, wp_pure]
  unfold Pieces Bufs Sems
  iintro ⟨#Hmw, ⟨HI, ⟨HX0, HX1, HX2, HX3⟩, HO⟩, ⟨HLL, HB0, HB1, HB2, HB3⟩, ⟨HC, HG0, HG1, HG2, HG3, HS0, HS1, HS2, HS3⟩, HW⟩
  ihave HO' := (Entails.of_eq (bigSep20 (fun r => OCh d L r (a.O d)))) $$ HO
  icases HO' with ⟨HO0, HO1, HO2, HO3, HO4, HO5, HO6, HO7, HO8, HO9, HO10, HO11, HO12, HO13, HO14, HO15, HO16, HO17, HO18, HO19⟩
  iapply (part1 a d L ha O) $$ [HB0 HX0 HG0 HB1 HX1 HG1 HB2 HX2 HG2 HI HLL HC HW]
  · isplitr; · iexact Hmw
    isplitl [HB0]; · iexact HB0
    isplitl [HX0]; · iexact HX0
    isplitl [HG0]; · iexact HG0
    isplitl [HB1]; · iexact HB1
    isplitl [HX1]; · iexact HX1
    isplitl [HG1]; · iexact HG1
    isplitl [HB2]; · iexact HB2
    isplitl [HX2]; · iexact HX2
    isplitl [HG2]; · iexact HG2
    isplitl [HI]; · iexact HI
    isplitl [HLL]; · iexact HLL
    isplitl [HC]; · iexact HC
    iexact HW
  iintro %v ⟨HI, HC, HL3, HL4, HL5, HL6, HL7, HL8, HL9, HL10, HL11, HL12, HL13, HL14, HL15, HL16, HL17, HL18, HL19, HG1, HG2, HG0, HB0, HX0, HL0, HW⟩
  iapply (part2 a d L ha O _) $$ [HS0 HS1 HS2 HB3 HX3 HG3 HO0 HO1 HO2 HL3 HL4 HG1 HG2 HG0 HB0 HX0 HW]
  · isplitr; · iexact Hmw
    isplitl [HS0]; · iexact HS0
    isplitl [HS1]; · iexact HS1
    isplitl [HS2]; · iexact HS2
    isplitl [HB3]; · iexact HB3
    isplitl [HX3]; · iexact HX3
    isplitl [HG3]; · iexact HG3
    isplitl [HO0]; · iexact HO0
    isplitl [HO1]; · iexact HO1
    isplitl [HO2]; · iexact HO2
    isplitl [HL3]; · iexact HL3
    isplitl [HL4]; · iexact HL4
    isplitl [HG1]; · iexact HG1
    isplitl [HG2]; · iexact HG2
    isplitl [HG0]; · iexact HG0
    isplitl [HB0]; · iexact HB0
    isplitl [HX0]; · iexact HX0
    iexact HW
  iintro ⟨HG3, HG1, HX1, HL1, HS0, HO0, HG0, HG2, HX2, HL2, HS2, HS1, HO1, HB1, HW⟩
  iapply (part3 a d L ha O _) $$ [HS3 HO3 HO4 HL5 HL6 HG3 HG1 HX1 HS0 HG0 HG2 HX2 HS2 HB1 HW]
  · isplitr; · iexact Hmw
    isplitl [HS3]; · iexact HS3
    isplitl [HO3]; · iexact HO3
    isplitl [HO4]; · iexact HO4
    isplitl [HL5]; · iexact HL5
    isplitl [HL6]; · iexact HL6
    isplitl [HG3]; · iexact HG3
    isplitl [HG1]; · iexact HG1
    isplitl [HX1]; · iexact HX1
    isplitl [HS0]; · iexact HS0
    isplitl [HG0]; · iexact HG0
    isplitl [HG2]; · iexact HG2
    isplitl [HX2]; · iexact HX2
    isplitl [HS2]; · iexact HS2
    isplitl [HB1]; · iexact HB1
    iexact HW
  iintro ⟨HG1, HG3, HX3, HL3, HS2, HO2, HG2, HG0, HX0, HL4, HS0, HS3, HO3, HB3, HW⟩
  iapply (part4 a d L ha O _) $$ [HO5 HO6 HL7 HL8 HL9 HS1 HG1 HG3 HX3 HS2 HG2 HG0 HX0 HS0 HB3 HW]
  · isplitr; · iexact Hmw
    isplitl [HO5]; · iexact HO5
    isplitl [HO6]; · iexact HO6
    isplitl [HL7]; · iexact HL7
    isplitl [HL8]; · iexact HL8
    isplitl [HL9]; · iexact HL9
    isplitl [HS1]; · iexact HS1
    isplitl [HG1]; · iexact HG1
    isplitl [HG3]; · iexact HG3
    isplitl [HX3]; · iexact HX3
    isplitl [HS2]; · iexact HS2
    isplitl [HG2]; · iexact HG2
    isplitl [HG0]; · iexact HG0
    isplitl [HX0]; · iexact HX0
    isplitl [HS0]; · iexact HS0
    isplitl [HB3]; · iexact HB3
    iexact HW
  iintro ⟨HG3, HL5, HS0, HO4, HG0, HG2, HX2, HL6, HS2, HS1, HO5, HG1, HW⟩
  iapply (part5 a d L ha O _) $$ [HO7 HO8 HL10 HL11 HS3 HG3 HS0 HG0 HG2 HX2 HS2 HW]
  · isplitr; · iexact Hmw
    isplitl [HO7]; · iexact HO7
    isplitl [HO8]; · iexact HO8
    isplitl [HL10]; · iexact HL10
    isplitl [HL11]; · iexact HL11
    isplitl [HS3]; · iexact HS3
    isplitl [HG3]; · iexact HG3
    isplitl [HS0]; · iexact HS0
    isplitl [HG0]; · iexact HG0
    isplitl [HG2]; · iexact HG2
    isplitl [HX2]; · iexact HX2
    isplitl [HS2]; · iexact HS2
    iexact HW
  iintro ⟨HL7, HS2, HO6, HG2, HG0, HX0, HL8, HS0, HS3, HO7, HG3, HW⟩
  iapply (part6 a d L ha O _) $$ [HO9 HO10 HL12 HL13 HS1 HG1 HS2 HG2 HG0 HX0 HS0 HG3 HW]
  · isplitr; · iexact Hmw
    isplitl [HO9]; · iexact HO9
    isplitl [HO10]; · iexact HO10
    isplitl [HL12]; · iexact HL12
    isplitl [HL13]; · iexact HL13
    isplitl [HS1]; · iexact HS1
    isplitl [HG1]; · iexact HG1
    isplitl [HS2]; · iexact HS2
    isplitl [HG2]; · iexact HG2
    isplitl [HG0]; · iexact HG0
    isplitl [HX0]; · iexact HX0
    isplitl [HS0]; · iexact HS0
    isplitl [HG3]; · iexact HG3
    iexact HW
  iintro ⟨HL9, HS0, HO8, HG0, HG2, HX2, HL10, HS2, HS1, HO9, HG1, HG3, HB3, HX3, HL11, HW⟩
  iapply (part7 a d L ha O _) $$ [HO11 HO12 HL14 HL15 HS3 HS0 HG0 HG2 HX2 HS2 HG1 HG3 HB3 HX3 HW]
  · isplitr; · iexact Hmw
    isplitl [HO11]; · iexact HO11
    isplitl [HO12]; · iexact HO12
    isplitl [HL14]; · iexact HL14
    isplitl [HL15]; · iexact HL15
    isplitl [HS3]; · iexact HS3
    isplitl [HS0]; · iexact HS0
    isplitl [HG0]; · iexact HG0
    isplitl [HG2]; · iexact HG2
    isplitl [HX2]; · iexact HX2
    isplitl [HS2]; · iexact HS2
    isplitl [HG1]; · iexact HG1
    isplitl [HG3]; · iexact HG3
    isplitl [HB3]; · iexact HB3
    isplitl [HX3]; · iexact HX3
    iexact HW
  iintro ⟨HS2, HO10, HG2, HG0, HX0, HL12, HS0, HS3, HO11, HG3, HG1, HB1, HX1, HL13, HW⟩
  iapply (part8 a d L ha O _) $$ [HO13 HO14 HO15 HL16 HL17 HS1 HS2 HG2 HG0 HX0 HS0 HS3 HG3 HG1 HB1 HX1 HW]
  · isplitr; · iexact Hmw
    isplitl [HO13]; · iexact HO13
    isplitl [HO14]; · iexact HO14
    isplitl [HO15]; · iexact HO15
    isplitl [HL16]; · iexact HL16
    isplitl [HL17]; · iexact HL17
    isplitl [HS1]; · iexact HS1
    isplitl [HS2]; · iexact HS2
    isplitl [HG2]; · iexact HG2
    isplitl [HG0]; · iexact HG0
    isplitl [HX0]; · iexact HX0
    isplitl [HS0]; · iexact HS0
    isplitl [HS3]; · iexact HS3
    isplitl [HG3]; · iexact HG3
    isplitl [HG1]; · iexact HG1
    isplitl [HB1]; · iexact HB1
    isplitl [HX1]; · iexact HX1
    iexact HW
  iintro ⟨HS0, HO12, HG0, HG2, HX2, HL14, HS2, HS1, HO13, HG1, HG3, HX3, HL15, HS3, HW⟩
  iapply (part9 a d L ha O _) $$ [HO16 HO17 HL18 HL19 HS0 HG0 HG2 HX2 HS2 HS1 HG1 HG3 HX3 HS3 HW]
  · isplitr; · iexact Hmw
    isplitl [HO16]; · iexact HO16
    isplitl [HO17]; · iexact HO17
    isplitl [HL18]; · iexact HL18
    isplitl [HL19]; · iexact HL19
    isplitl [HS0]; · iexact HS0
    isplitl [HG0]; · iexact HG0
    isplitl [HG2]; · iexact HG2
    isplitl [HX2]; · iexact HX2
    isplitl [HS2]; · iexact HS2
    isplitl [HS1]; · iexact HS1
    isplitl [HG1]; · iexact HG1
    isplitl [HG3]; · iexact HG3
    isplitl [HX3]; · iexact HX3
    isplitl [HS3]; · iexact HS3
    iexact HW
  iintro ⟨HS2, HO14, HG2, HG0, HX0, HL16, HS0, HS3, HO15, HG3, HG1, HX1, HL17, HS1, HW⟩
  -- gather 18 done
  iapply (wait_gather d L (sm := cc0_scratch7.sem) (dst := b2V) (N := NB) hC2) $$ [HG2 HW]
  · isplitl [HG2]; · iexact HG2
    isplitl [HW]; · iexact HW
    iexact Hmw
  iintro ⟨⟨HB2, HX2, HL18⟩, HG2, HW⟩
  -- copy 18
  iapply (start_store a d L (sm := cc0_scratch11.sem) (dst := b2V) 18) $$ [HB2 HO18 HS2]
  · isplitl [HB2]; · iexact HB2
    isplitl [HO18]; · iexact HO18
    iexact HS2
  iintro HS2
  -- gather 19 done
  iapply (wait_gather d L (sm := cc0_scratch8.sem) (dst := b3V) (N := NB) hC3) $$ [HG3 HW]
  · isplitl [HG3]; · iexact HG3
    isplitl [HW]; · iexact HW
    iexact Hmw
  iintro ⟨⟨HB3, HX3, HL19⟩, HG3, HW⟩
  -- copy 19
  iapply (start_store a d L (sm := cc0_scratch12.sem) (dst := b3V) 19) $$ [HB3 HO19 HS3]
  · isplitl [HB3]; · iexact HB3
    isplitl [HO19]; · iexact HO19
    iexact HS3
  iintro HS3
  -- copy 16 done
  iapply (wait_copy d L (sm := cc0_scratch9.sem) (dst := oK L 16) (N := NB) (oK_credit L 16)) $$ [HS0 HW]
  · isplitl [HS0]; · iexact HS0
    isplitl [HW]; · iexact HW
    iexact Hmw
  iintro ⟨⟨HO16, HB0⟩, HS0, HW⟩
  -- copy 17 done
  iapply (wait_copy d L (sm := cc0_scratch10.sem) (dst := oK L 17) (N := NB) (oK_credit L 17)) $$ [HS1 HW]
  · isplitl [HS1]; · iexact HS1
    isplitl [HW]; · iexact HW
    iexact Hmw
  iintro ⟨⟨HO17, HB1⟩, HS1, HW⟩
  -- copy 18 done
  iapply (wait_copy d L (sm := cc0_scratch11.sem) (dst := oK L 18) (N := NB) (oK_credit L 18)) $$ [HS2 HW]
  · isplitl [HS2]; · iexact HS2
    isplitl [HW]; · iexact HW
    iexact Hmw
  iintro ⟨⟨HO18, HB2⟩, HS2, HW⟩
  -- copy 19 done
  iapply (wait_copy d L (sm := cc0_scratch12.sem) (dst := oK L 19) (N := NB) (oK_credit L 19)) $$ [HS3 HW]
  · isplitl [HS3]; · iexact HS3
    isplitl [HW]; · iexact HW
    iexact Hmw
  iintro ⟨⟨HO19, HB3⟩, HS3, HW⟩
  imodintro
  isplitl [HI HX0 HX1 HX2 HX3 HO0 HO1 HO2 HO3 HO4 HO5 HO6 HO7 HO8 HO9 HO10 HO11 HO12 HO13 HO14 HO15 HO16 HO17 HO18 HO19]
  · isplitl [HI]; · iexact HI
    isplitl [HX0 HX1 HX2 HX3]
    · isplitl [HX0]; · iexact HX0
      isplitl [HX1]; · iexact HX1
      isplitl [HX2]; · iexact HX2
      iexact HX3
    iapply (Entails.of_eq (bigSep20 (fun r => OCh d L r (G a d))).symm)
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    isplitl [HO14]; · iexact HO14
    isplitl [HO15]; · iexact HO15
    isplitl [HO16]; · iexact HO16
    isplitl [HO17]; · iexact HO17
    isplitl [HO18]; · iexact HO18
    iexact HO19
  isplitl [HL0 HL1 HL2 HL3 HL4 HL5 HL6 HL7 HL8 HL9 HL10 HL11 HL12 HL13 HL14 HL15 HL16 HL17 HL18 HL19 HB0 HB1 HB2 HB3]
  · isplitl [HL0 HL1 HL2 HL3 HL4 HL5 HL6 HL7 HL8 HL9 HL10 HL11 HL12 HL13 HL14 HL15 HL16 HL17 HL18 HL19]
    · iapply (lists_join a d L)
      iapply (Entails.of_eq (bigSep20 (fun r => LRow a d L r)).symm)
      isplitl [HL0]; · iexact HL0
      isplitl [HL1]; · iexact HL1
      isplitl [HL2]; · iexact HL2
      isplitl [HL3]; · iexact HL3
      isplitl [HL4]; · iexact HL4
      isplitl [HL5]; · iexact HL5
      isplitl [HL6]; · iexact HL6
      isplitl [HL7]; · iexact HL7
      isplitl [HL8]; · iexact HL8
      isplitl [HL9]; · iexact HL9
      isplitl [HL10]; · iexact HL10
      isplitl [HL11]; · iexact HL11
      isplitl [HL12]; · iexact HL12
      isplitl [HL13]; · iexact HL13
      isplitl [HL14]; · iexact HL14
      isplitl [HL15]; · iexact HL15
      isplitl [HL16]; · iexact HL16
      isplitl [HL17]; · iexact HL17
      isplitl [HL18]; · iexact HL18
      iexact HL19
    isplitl [HB0]; · iexact HB0
    isplitl [HB1]; · iexact HB1
    isplitl [HB2]; · iexact HB2
    iexact HB3
  isplitl [HC HG0 HG1 HG2 HG3 HS0 HS1 HS2 HS3]
  · isplitl [HC]; · iexact HC
    isplitl [HG0]; · iexact HG0
    isplitl [HG1]; · iexact HG1
    isplitl [HG2]; · iexact HG2
    isplitl [HG3]; · iexact HG3
    isplitl [HS0]; · iexact HS0
    isplitl [HS1]; · iexact HS1
    isplitl [HS2]; · iexact HS2
    iexact HS3
  iexact HW

end Cert.Proof.KI

end
-- ==== Proof.KI.Obl.lean ====
/-
  The obligation of one tile: from what the launch hands the tile's thread, the task's program runs and brings back the
  task's pieces with the output's chunks holding the call's result.
-/
module

public import proofs.«01_k».proof.Proof.KI.TileRun

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v2_scv : Memref Cert.KernelIdeal.sig Kind.scVector Space.hbm Cert.KernelIdeal.S32x20x80 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v3_scv : Memref Cert.KernelIdeal.sig Kind.scVector Space.hbm Cert.KernelIdeal.S51200x128 EltTy.f32)
local notation "lV" => (Memref.whole Cert.KernelIdeal.cc0_scratch0 : Memref Cert.KernelIdeal.sig Kind.scVector Space.vmem Cert.KernelIdeal.S20x80 EltTy.i32)
local notation "b0V" => (Memref.whole Cert.KernelIdeal.cc0_scratch1 : Memref Cert.KernelIdeal.sig Kind.scVector Space.vmem Cert.KernelIdeal.S80x128 EltTy.f32)
local notation "b1V" => (Memref.whole Cert.KernelIdeal.cc0_scratch2 : Memref Cert.KernelIdeal.sig Kind.scVector Space.vmem Cert.KernelIdeal.S80x128 EltTy.f32)
local notation "b2V" => (Memref.whole Cert.KernelIdeal.cc0_scratch3 : Memref Cert.KernelIdeal.sig Kind.scVector Space.vmem Cert.KernelIdeal.S80x128 EltTy.f32)
local notation "b3V" => (Memref.whole Cert.KernelIdeal.cc0_scratch4 : Memref Cert.KernelIdeal.sig Kind.scVector Space.vmem Cert.KernelIdeal.S80x128 EltTy.f32)

variable (a : Inp F) (d : Dev nD) (L : grid0.Coords)

/-! ## The pieces in the body's spelling -/

theorem irowK_eq : Rect.unit (s := S32x20x80) (k0_off1 L) S1x20x80.size (k0_off1_inb L) = irow (wL L) := by
  unfold irow Rect.part Rect.block
  congr 1 <;> funext b
  · rw [k0_off1_eq]
    match b with
    | 0 => simp [Shape.partIx, Shape.partSize, task]; rfl
    | 1 => simp [Shape.partIx, Shape.partSize]
    | 2 => simp [Shape.partIx, Shape.partSize]
  · match b with
    | 0 => simp [Shape.partSize]
    | 1 => simp [Shape.partSize]
    | 2 => simp [Shape.partSize]
theorem oblkK_eq (r : Fin 20) : Rect.unit (s := S51200x128) (k0_off2 L (BitVec.ofNat 32 (80 * r.val))) S80x128.size (k0_off2_inb L r) = oblk (chunk (wL L) r) := by
  unfold oblk Rect.part Rect.block
  congr 1 <;> funext b
  · rw [k0_off2_eq]
    match b with
    | 0 =>
      show 3200 * (L 1).val + 1600 * (L 0).val + 80 * r.val = (20 * (2 * (L 1).val + (L 0).val) + r.val) * (51200 / 640)
      omega
    | 1 => simp [Shape.partIx, Shape.partSize]
  · match b with
    | 0 => simp [Shape.partSize]
    | 1 => simp [Shape.partSize]
theorem set_iK : (iK L).view.set = iSet (wL L) := by
  show (((iV).view.slice (Rect.unit (s := S32x20x80) (k0_off1 L) S1x20x80.size (k0_off1_inb L))).reshape S20x80 squeezes_S1x20x80_S20x80.numel_eq).set = _
  rw [View.set_reshape]
  show ((View.whole (main_v2_scv : Ref sig .scVector)).slice _).set = _
  rw [View.set_slice]
  show _ = ((View.whole (main_v2_scv : Ref sig .scVector)).slice (irow (wL L))).set
  rw [View.set_slice, ← irowK_eq]
theorem set_oK (r : Fin 20) : (oK L r).view.set = oSet (chunk (wL L) r) := by
  show ((View.whole (main_v3_scv : Ref sig .scVector)).slice (Rect.unit (s := S51200x128) (k0_off2 L (BitVec.ofNat 32 (80 * r.val))) S80x128.size (k0_off2_inb L r))).set = _
  rw [View.set_slice]
  show _ = ((View.whole (main_v3_scv : Ref sig .scVector)).slice (oblk (chunk (wL L) r))).set
  rw [View.set_slice, ← oblkK_eq]

theorem iPts_eq : (iPts a d (wL L) : sProp 𝕄) = IBlk a d L := by unfold IBlk; rw [set_iK]
theorem oPts_eq (f : Buf (Elt F) (oLoc d)) : (oPts d f (wL L) : sProp 𝕄) = bigSep Finset.univ fun r => OCh d L r f :=
  bigSep_congr fun r _ => by unfold OCh; rw [set_oK]

/-- The share of the table kept beside the four read tokens. -/
def XRest : sProp 𝕄 := iprop(((xK).view.loc (thr d L) ↦[(xK).view.set]{Transfers.shareDrop (xq (wL L)) 4} a.X d)
  ∗ (xLoc d ↦[Finset.univ \ (xK).view.set]{xq (wL L)} a.X d))

theorem xPts_toks : (xPts a d (wL L) : sProp 𝕄) ⊣⊢ iprop((XTok a d L 0 ∗ XTok a d L 1 ∗ XTok a d L 2 ∗ XTok a d L 3) ∗ XRest a d L) := by
  have h4 : (bigSep (Finset.range 4) fun i => (xK).view.loc (thr d L) ↦[(xK).view.set]{Transfers.shareTokN (xq (wL L)) i} a.X d : sProp 𝕄)
      = iprop(XTok a d L 0 ∗ XTok a d L 1 ∗ XTok a d L 2 ∗ XTok a d L 3) := by
    rw [show Finset.range 4 = {0, 1, 2, 3} by decide]
    iterate 3 rw [SparseCore.bigSep_insert' (by decide)]
    rw [bigSep_singleton]; rfl
  have h1 := pointsTo_split_subset (Val := Elt F) (ℓ := xLoc d) (q := xq (wL L)) (f := a.X d) (S := Finset.univ) (Finset.subset_univ (xK).view.set)
    (Ix := HIx 1) (Name := ℕ) (U := UU) (Lvl := ℕ)
  have h2 := Transfers.pointsTo_toks_range (Ix := HIx 1) (Name := ℕ) (U := UU) (Lvl := ℕ) (Val := Elt F) (ℓ := xLoc d) (S := (xK).view.set) (f := a.X d) (xq (wL L)) 4
  constructor
  · iintro H
    ihave H1 := h1.1 $$ H
    icases H1 with ⟨HS, HR⟩
    ihave H2 := h2.1 $$ HS
    icases H2 with ⟨HD, HT⟩
    isplitl [HT]
    · iapply (Entails.of_eq h4); iexact HT
    unfold XRest
    isplitl [HD]; · iexact HD
    iexact HR
  · unfold XRest
    iintro ⟨HT, HD, HR⟩
    iapply h1.2
    isplitl [HT HD]
    · iapply h2.2
      isplitl [HD]; · iexact HD
      iapply (Entails.of_eq h4.symm); iexact HT
    iexact HR

/-! ## The tile's own semaphores and buffers -/

theorem cell_ne {s s' : DmaSem sig} (h : s ≠ s') : ((thr d L, .dma s) : GSem nD τ sig) ≠ (thr d L, .dma s') :=
  fun e => h (SemLoc.dma.inj (congrArg Prod.snd e))
theorem buf_ne {b b' : Ref sig .scVector} (h : b ≠ b') : (Proc.scVector (cV L) (jV L)).devRef b ≠ (Proc.scVector (cV L) (jV L)).devRef b' :=
  fun e => h (Proc.devRef_injective _ e)

/-- The tile's cells: the nine the task uses, and the rest. -/
theorem ownSems0_V : (ownSems0 (thr d L) : sProp 𝕄) = iprop(sem0 d L cc0_scoped0.sem ∗ sem0 d L cc0_scratch5.sem ∗ sem0 d L cc0_scratch6.sem ∗ sem0 d L cc0_scratch7.sem ∗ sem0 d L cc0_scratch8.sem ∗ sem0 d L cc0_scratch9.sem ∗ sem0 d L cc0_scratch10.sem ∗ sem0 d L cc0_scratch11.sem ∗ sem0 d L cc0_scratch12.sem
    ∗ bigSep ((((((((((ownCells (thr d L)).erase ((thr d L, .dma cc0_scoped0.sem) : GSem nD τ sig)).erase ((thr d L, .dma cc0_scratch5.sem) : GSem nD τ sig)).erase ((thr d L, .dma cc0_scratch6.sem) : GSem nD τ sig)).erase ((thr d L, .dma cc0_scratch7.sem) : GSem nD τ sig)).erase ((thr d L, .dma cc0_scratch8.sem) : GSem nD τ sig)).erase ((thr d L, .dma cc0_scratch9.sem) : GSem nD τ sig)).erase ((thr d L, .dma cc0_scratch10.sem) : GSem nD τ sig)).erase ((thr d L, .dma cc0_scratch11.sem) : GSem nD τ sig)).erase ((thr d L, .dma cc0_scratch12.sem) : GSem nD τ sig)) fun g => semVal g 0) := by
  unfold SparseCore.Cfg.ownSems0
  rw [SparseCore.bigSep_erase' ((mem_ownCells (g := ((thr d L, .dma cc0_scoped0.sem) : GSem nD τ sig))).mpr ⟨rfl, by show (SemLoc.dma cc0_scoped0.sem : SemLoc sig).isScoped .scVector = true; decide⟩),
    SparseCore.bigSep_erase' (Finset.mem_erase.mpr ⟨cell_ne d L (by decide), (mem_ownCells (g := ((thr d L, .dma cc0_scratch5.sem) : GSem nD τ sig))).mpr ⟨rfl, by show (SemLoc.dma cc0_scratch5.sem : SemLoc sig).isScoped .scVector = true; decide⟩⟩),
    SparseCore.bigSep_erase' (Finset.mem_erase.mpr ⟨cell_ne d L (by decide), Finset.mem_erase.mpr ⟨cell_ne d L (by decide), (mem_ownCells (g := ((thr d L, .dma cc0_scratch6.sem) : GSem nD τ sig))).mpr ⟨rfl, by show (SemLoc.dma cc0_scratch6.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := ((thr d L, .dma cc0_scratch7.sem) : GSem nD τ sig))).mpr ⟨rfl, by show (SemLoc.dma cc0_scratch7.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := ((thr d L, .dma cc0_scratch8.sem) : GSem nD τ sig))).mpr ⟨rfl, by show (SemLoc.dma cc0_scratch8.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := ((thr d L, .dma cc0_scratch9.sem) : GSem nD τ sig))).mpr ⟨rfl, by show (SemLoc.dma cc0_scratch9.sem : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := ((thr d L, .dma cc0_scratch10.sem) : GSem nD τ sig))).mpr ⟨rfl, by show (SemLoc.dma cc0_scratch10.sem : SemLoc sig).isScoped .scVector = true; decide⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := ((thr d L, .dma cc0_scratch11.sem) : GSem nD τ sig))).mpr ⟨rfl, by show (SemLoc.dma cc0_scratch11.sem : SemLoc sig).isScoped .scVector = true; decide⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := ((thr d L, .dma cc0_scratch12.sem) : GSem nD τ sig))).mpr ⟨rfl, by show (SemLoc.dma cc0_scratch12.sem : SemLoc sig).isScoped .scVector = true; decide⟩⟩⟩⟩⟩⟩⟩⟩⟩)]

/-- The tile's buffers: the five the task uses, and the rest. -/
theorem ownBufs_V : (ownBufs (thr d L) : sProp 𝕄) = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
    ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨buf_ne L (by decide), SparseCore.Cfg.mem_ownRefs_of_owner (p := Proc.scVector (cV L) (jV L)) (b := (Proc.scVector (cV L) (jV L)).devRef cc0_scratch1) rfl⟩),
    SparseCore.bigSep_erase' (Finset.mem_erase.mpr ⟨buf_ne L (by decide), Finset.mem_erase.mpr ⟨buf_ne L (by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨buf_ne L (by decide), Finset.mem_erase.mpr ⟨buf_ne L (by decide), Finset.mem_erase.mpr ⟨buf_ne L (by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨buf_ne L (by decide), Finset.mem_erase.mpr ⟨buf_ne L (by decide), Finset.mem_erase.mpr ⟨buf_ne L (by decide), Finset.mem_erase.mpr ⟨buf_ne L (by decide), SparseCore.Cfg.mem_ownRefs_of_owner (p := Proc.scVector (cV L) (jV L)) (b := (Proc.scVector (cV L) (jV L)).devRef cc0_scratch4) rfl⟩⟩⟩⟩)]

theorem any_b (b : Ref sig .scVector) : (iprop(∃ f, (thr d L).loc b ↦{fullShare} f) : sProp 𝕄)
    = iprop(∃ f, (View.whole b).loc (thr d L) ↦[(View.whole b).set]{fullShare} f) := by
  have h : (View.whole b).set = Finset.univ := View.set_whole b
  rw [h]

/-! ## The obligation -/

variable [FloatOps F]

/-- The task on the tile's thread. -/
theorem tile_body (hF : (K (F := F)).Facts) (ha : InOK a) (O : CellTallies nD τ sig (HIx 1)) (W : Waits sig (HIx 1)) (hO : ∀ g, O g none = 0) :
    iprop(levAts (K (F := F)).L (K (F := F)).lev ∗ emp ∗ goP a d (wL L)
        ∗ scopedBufs (thr d L) ∗ scopedSems0 (thr d L) ∗ owes (thr d L) O W)
      ⊢ wp frame (wpE (defs₀ (F := F)) 𝒱₀ (thr d L) none) Set.univ
          (cc0_gk L iV (Memref.isWhole_whole _) xV (Memref.isWhole_whole _) oV (Memref.isWhole_whole _)
            lV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop(tdP a d (wL L) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  simp only [any_b]
  unfold goP tdP
  rw [iPts_eq, oPts_eq, oPts_eq]
  iintro ⟨#Hlv, -, ⟨HI, HX, HO⟩, ⟨HL, HB0, HB1, HB2, HB3, Hbufs⟩, ⟨HC, HG0, HG1, HG2, HG3, HS0, HS1, HS2, HS3, Hsems⟩, HW⟩
  ihave Hmw := (show levAts (K (F := F)).L (K (F := F)).lev ⊢ Transfers.MayWaits (thr d L) (default : HIx 1) O from
    (K (F := F)).mayWaits_none (thr := thr d L) hO) $$ Hlv
  ihave HX' := (xPts_toks a d L).1 $$ HX
  icases HX' with ⟨HX, HXR⟩
  iapply (wp_wand_r Idealize.ShloMosaic.frame (wpE (defs₀ (F := F)) 𝒱₀ (thr d L) none) Set.univ)
  isplitl [Hmw HI HX HO HL HB0 HB1 HB2 HB3 HC HG0 HG1 HG2 HG3 HS0 HS1 HS2 HS3 HW]
  · iapply (tile_run a d L ha O)
    isplitl [Hmw]; · iexact Hmw
    isplitl [HI HX HO]
    · unfold Pieces
      isplitl [HI]; · iexact HI
      isplitl [HX]; · iexact HX
      iexact HO
    isplitl [HL HB0 HB1 HB2 HB3]
    · unfold Bufs AnyL AnyB
      isplitl [HL]; · iexact HL
      isplitl [HB0]; · iexact HB0
      isplitl [HB1]; · iexact HB1
      isplitl [HB2]; · iexact HB2
      iexact HB3
    isplitl [HC HG0 HG1 HG2 HG3 HS0 HS1 HS2 HS3]
    · unfold Sems
      isplitl [HC]; · iexact HC
      isplitl [HG0]; · iexact HG0
      isplitl [HG1]; · iexact HG1
      isplitl [HG2]; · iexact HG2
      isplitl [HG3]; · iexact HG3
      isplitl [HS0]; · iexact HS0
      isplitl [HS1]; · iexact HS1
      isplitl [HS2]; · iexact HS2
      iexact HS3
    iexists W; iexact HW
  unfold Pieces Bufs Sems AnyL AnyB
  iintro %_ ⟨⟨HI, HX, HO⟩, ⟨HL, HB0, HB1, HB2, HB3⟩, ⟨HC, HG0, HG1, HG2, HG3, HS0, HS1, HS2, HS3⟩, ⟨%W', HW⟩⟩
  isplitl [HI HX HXR HO]
  · isplitl [HI]; · iexact HI
    isplitl [HX HXR]
    · iapply (xPts_toks a d L).2
      isplitl [HX]; · iexact HX
      iexact HXR
    iexact HO
  isplitl [HL HB0 HB1 HB2 HB3 Hbufs]
  · isplitl [HL]; · iexact HL
    isplitl [HB0]; · iexact HB0
    isplitl [HB1]; · iexact HB1
    isplitl [HB2]; · iexact HB2
    isplitl [HB3]; · iexact HB3
    iexact Hbufs
  isplitl [HC HG0 HG1 HG2 HG3 HS0 HS1 HS2 HS3 Hsems]
  · isplitl [HC]; · iexact HC
    isplitl [HG0]; · iexact HG0
    isplitl [HG1]; · iexact HG1
    isplitl [HG2]; · iexact HG2
    isplitl [HG3]; · iexact HG3
    isplitl [HS0]; · iexact HS0
    isplitl [HS1]; · iexact HS1
    isplitl [HS2]; · iexact HS2
    isplitl [HS3]; · iexact HS3
    iexact Hsems
  iexists W'; isplitr
  · ipureintro; intro p _
    rcases p.2 with _ | q
    · exact .inr (.inl rfl)
    · exact .inr (.inr (congrArg some (Subsingleton.elim q 0)))
  iexact HW

/-- The grid's coordinates of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gk (coordsV c s)
          iV (Memref.isWhole_whole _) xV (Memref.isWhole_whole _) oV (Memref.isWhole_whole _)
          lV (Memref.isWhole_whole _) b0V (Memref.isWhole_whole _) b1V (Memref.isWhole_whole _) b2V (Memref.isWhole_whole _) b3V (Memref.isWhole_whole _)
          cc0_scratch5 cc0_scratch6 cc0_scratch7 cc0_scratch8 cc0_scratch9 cc0_scratch10 cc0_scratch11 cc0_scratch12 cc0_scoped0) ⟨⟩ c s := rfl

set_option maxRecDepth 16384 in
/-- Every tile meets its obligation. -/
theorem tileObl (hF : (K (F := F)).Facts) (ha : InOK a) : (K (F := F)).TileObl (D (F := F)) 𝒱 (P a) v₀ 0 := by
  intro d c i O W hO _ _
  simp only [show (P a).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body a d (coordsV ⟨_, hci.1⟩ ⟨_, hci.2⟩) hF ha O W hO

end Cert.Proof.KI

end
-- ==== Proof.KI.Main.lean ====
/-
  @main run on the TensorCore, and the program's run from the launch: it ends, nothing faulting, every semaphore at zero,
  the arguments at their launch contents and the result at the first three columns of the LSTM call's.
-/
module

public import proofs.«01_k».proof.Proof.KI.Host
public import proofs.«01_k».proof.Proof.KI.Obl

@[expose] public section

noncomputable section

namespace Cert.Proof.KI

open Cert.KernelIdeal Cert.KernelIdeal.Gen

open Idealize.ShloMosaic
open Idealize.ShloMosaic.TcCoe
open Idealize.ShloMosaic.SparseCore.Cfg (HIx Pay)
open Idealize.ShloMosaic.StableHlo (after held seq seqK tcRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The gather call's arrays among the buffers held -/

/-- The gather call's three arrays. -/
def gRefs : Finset (DevRef τ sig) := {Proc.devRef .tc main_v2, Proc.devRef .tc main_arg1, Proc.devRef .tc main_v3}

theorem gRefs_sub : gRefs ⊆ ucRefs := sub3 rfl rfl rfl

theorem held_gRefs (d : Dev nD) (W : Valuation τ sig (Elt F)) :
    (held (d.tc : Thread nD τ) gRefs W : sProp 𝕄)
      = iprop((iLoc d ↦{fullShare} W (Proc.devRef .tc main_v2)) ∗ (xLoc d ↦{fullShare} W (Proc.devRef .tc main_arg1))
          ∗ oLoc d ↦{fullShare} W (Proc.devRef .tc main_v3)) := by
  unfold held gRefs
  rw [SparseCore.bigSep_insert' (by decide), SparseCore.bigSep_insert' (by decide), bigSep_singleton]

/-- The buffers before the gather call: its three arrays and the rest. -/
theorem held_V1 (d : Dev nD) :
    (held (d.tc : Thread nD τ) ucRefs (V1 m d) : sProp 𝕄)
      = iprop(((iLoc d ↦{fullShare} (inp m).I d) ∗ (xLoc d ↦{fullShare} (inp m).X d) ∗ oLoc d ↦{fullShare} (inp m).O d)
          ∗ held (d.tc : Thread nD τ) (ucRefs \ gRefs) (V1 m d)) := by
  rw [StableHlo.held_sub_split _ gRefs_sub, held_gRefs]; rfl

/-- The buffers after it: the same, the output at the gathered rows. -/
theorem held_V2 (d : Dev nD) :
    (held (d.tc : Thread nD τ) ucRefs (V2 m d) : sProp 𝕄)
      = iprop(((iLoc d ↦{fullShare} (inp m).I d) ∗ (xLoc d ↦{fullShare} (inp m).X d) ∗ oLoc d ↦{fullShare} G (inp m) d)
          ∗ held (d.tc : Thread nD τ) (ucRefs \ gRefs) (V1 m d)) := by
  rw [StableHlo.held_sub_split _ gRefs_sub, held_gRefs, V2_o, V2_ne m d main_v2 (by decide), V2_ne m d main_arg1 (by decide),
    StableHlo.held_congr (V := V2 m d) (V' := V1 m d) (d.tc : Thread nD τ) (fun b hb => Function.update_of_ne (fun e =>
      (Finset.mem_sdiff.mp hb).2 (e ▸ by unfold gRefs; simp)) _ _)]
  rfl

/-! ## @main -/

/-- What @main leaves the claims: every buffer at its last contents. -/
abbrev FIN (d : Dev nD) : sProp 𝕄 := held (d.tc : Thread nD τ) ucRefs (V5 m d)

set_option backward.isDefEq.respectTransparency.types false in
/-- The program after the gather call, from every buffer held, to the end. -/
theorem tail_run (d : Dev nD) (Q : PUnit → sProp 𝕄) :
    iprop((boundary (d.tc : Thread nD τ) ∗ held (d.tc : Thread nD τ) ucRefs (V2 m d)) ∗ owesW d ∗ levAts (K (F := F)).L (K (F := F)).lev ∗ pghost d
        ∗ ((boundary (d.tc : Thread nD τ) ∗ held (d.tc : Thread nD τ) ucRefs (V5 m d) ∗ owesW d) -∗ Q ⟨⟩))
      ⊢ wp frame (wpE ((K (F := F)).defs (D (F := F))) 𝒱 (d.tc : Thread nD τ) none) Set.univ
          (seqK postOps (Prog.lift (.customCall (SparseCore.inner (Pipeline.entry 0)) ()) >>= fun _ => seqK [outOp] (pure ⟨⟩))) Q := by
  rw [← StableHlo.seq_bind_seqK]
  iintro ⟨Hbh, HO, Hl, Hg, Hk⟩
  iapply (StableHlo.wp_seq 𝒱 none Set.univ d ucRefs _ (postOps (F := F)) post_sub post_fresh (V2 m d)) $$ Hbh
  iintro ⟨Hb, Hh⟩
  rw [wp_bind]
  have hc := call_run (fun c b => V3 m c b) (fun c b => V4 m c b) (fun c => V4_out m c) (fun c b h => V4_ne m c b h) d
    (fun _ => wp frame (wpE ((K (F := F)).defs (D (F := F))) 𝒱 (d.tc : Thread nD τ) none) Set.univ (seqK [outOp] (pure ⟨⟩)) Q)
  rw [unscopedBufs_held, unscopedBufs_held] at hc
  iapply hc
  isplitl [Hk]
  · iintro ⟨Hb, Hh, HO⟩
    rw [← StableHlo.seq_bind_seqK]
    iapply (StableHlo.wp_seq 𝒱 none Set.univ d ucRefs _ [outOp (F := F)] out_sub out_fresh (V4 m d)) $$ [Hb Hh]
    · isplitl [Hb] <;> iassumption
    iintro ⟨Hb, Hh⟩
    rw [wp_pure]; imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  iexact Hg

set_option backward.isDefEq.respectTransparency.types false in
/-- @main on device `d`'s TensorCore, from the launch's holdings to the buffers at their last contents. -/
theorem hmain (κ : GSem nD τ sig → ℕ) (d : Dev nD) :
    iprop((K (F := F)).ctx EH (P (inp m)) κ ∗ (K (F := F)).tcSt EH d 0 ∗ (K (F := F)).tcRes m ρ d ∗ pghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, ← StableHlo.seq_bind_seqK,
    show (unscopedBufs d (fun b => m ((SparseCore.T d : Thread nD τ).loc b)) : sProp 𝕄) = held (d.tc : Thread nD τ) ucRefs (V0 m d) from
      unscopedBufs_held d (V0 m d)]
  iintro ⟨#Hctx, Hst, ⟨Hb, Hh, Hts, -⟩, Hg⟩
  iapply (StableHlo.wp_seq 𝒱 none Set.univ d ucRefs _ (preOps (F := F)) pre_sub pre_fresh (V0 m d)) $$ [Hb Hh]
  · isplitl [Hb] <;> iassumption
  iintro ⟨Hb, Hh⟩
  rw [wp_bind]
  ihave Hh := (Entails.of_eq (show (held (d.tc : Thread nD τ) ucRefs (after preOps (V0 m d)) : sProp 𝕄) = _ from held_V1 (F := F) m d)) $$ Hh
  icases Hh with ⟨H3, Hrest⟩
  iapply ((K (F := F)).wp_run (D (F := F)) 𝒱 (EH := EH) (P := P (inp m)) κ d 0) $$ [Hst H3 Hb Hrest Hts Hg]
  isplitr; · iexact Hctx
  isplitl [Hst]; · iexact Hst
  isplitl [H3]
  · rw [st0_eq]; iexact H3
  iintro ⟨Hst, Hdn⟩
  ihave H3 := (Entails.of_eq (dn0_eq (inp m) d)) $$ Hdn
  unfold SparseCore.Cfg.tcSt
  icases Hst with ⟨⟨%W, %hW, HO⟩, Hat, Hrd, Hrs, Htk⟩
  ihave HO := (Entails.of_eq (show (owes (SparseCore.T d : Thread nD τ) ((K (F := F)).Otc d ((0 : Fin 1).val + 1)) W : sProp 𝕄) = owes (SparseCore.T d : Thread nD τ) 0 W from
    congrArg (fun O => (owes (SparseCore.T d : Thread nD τ) O W : sProp 𝕄)) ((K (F := F)).Otc_end d (n := 0 + 1) le_rfl))) $$ HO
  ihave Hlev := ((K (F := F)).ctx_levAts κ) $$ Hctx
  iapply (tail_run m d) $$ [Hb H3 Hrest HO Hlev Hg Hat Hrd Hrs Htk Hts]
  isplitl [Hb H3 Hrest]
  · isplitl [Hb]; · iexact Hb
    rw [held_V2]
    isplitl [H3]; · iexact H3
    iexact Hrest
  isplitl [HO]
  · iexists W
    isplitr; · ipureintro; exact hW
    iexact HO
  isplitl [Hlev]; · iexact Hlev
  isplitl [Hg]; · iexact Hg
  iintro ⟨Hb, Hh, ⟨%W', %hW', HO⟩⟩
  isplitl [HO Hat Hrd Hrs Htk]
  · isplitl [HO]
    · iexists W'
      isplitr; · ipureintro; exact hW'
      iapply (Entails.of_eq (congrArg (fun O => (owes (SparseCore.T d : Thread nD τ) O W' : sProp 𝕄)) ((K (F := F)).Otc_end d (n := 0 + 1) le_rfl).symm))
      iexact HO
    isplitl [Hat]; · iexact Hat
    isplitl [Hrd]; · iexact Hrd
    isplitl [Hrs]; · iexact Hrs
    iexact Htk
  isplitl [Hh]; · iexact Hh
  isplitl [Hb]; · iexact Hb
  iexact Hts

/-! ## The launch's ghost state -/

/-- The handshakes' rounds, the pipeline's rounds, no counter. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem bigSep_emp' {I : Type} (s : Finset I) : (bigSep s fun _ => iprop(emp)) = (iprop(emp) : sProp 𝕄) := bigSep_emp_const s

/-- The launch deals the handshakes' rounds, and the pipeline's to each device. -/
theorem hu₀ : (ownU (u₀ (F := F)) : sProp 𝕄)
    ⊢ |={Set.univ}=> iprop(BI.own (EH (initOf (K (F := F)).hsCells (K (F := F)).hsToks)) ∗ (bigSep Finset.univ fun d : Dev nD => pghost (F := F) d)
        ∗ bigSep Finset.univ fun thr : Thread nD τ => bigSep Finset.univ fun q : Fin 1 => (P (inp m)).x q thr) := by
  unfold u₀
  iintro Hu
  ihave H := (ownU_pair (initOf (K (F := F)).hsCells (K (F := F)).hsToks)
    ((initOf (Pipeline.cells (Pipeline.pin (pcfgs (F := F)) adm) phinj) (Pipeline.launchToks (Pipeline.pin (pcfgs (F := F)) adm) phinj), 1) : UP × Counters)) $$ Hu
  icases H with ⟨HH, HR⟩
  ihave H := (own_pair_emb (embR : Emb (UP × Counters) 𝕄)
    (initOf (Pipeline.cells (Pipeline.pin (pcfgs (F := F)) adm) phinj) (Pipeline.launchToks (Pipeline.pin (pcfgs (F := F)) adm) phinj)) (1 : Counters)) $$ HR
  icases H with ⟨HP, -⟩
  ihave HP := (Entails.of_eq (show (BI.own (((Emb.inl : Emb UP (UP × Counters)).trans (embR : Emb (UP × Counters) 𝕄))
      (initOf (Pipeline.cells (Pipeline.pin (pcfgs (F := F)) adm) phinj) (Pipeline.launchToks (Pipeline.pin (pcfgs (F := F)) adm) phinj))) : sProp 𝕄)
    = BI.own (EP (initOf (Pipeline.cells (Pipeline.pin (pcfgs (F := F)) adm) phinj) (Pipeline.launchToks (Pipeline.pin (pcfgs (F := F)) adm) phinj))) from rfl)) $$ HP
  imod (Pipeline.fund_ghost (Pipeline.pin (pcfgs (F := F)) adm) EP phinj) $$ HP with ⟨Hg, Ht⟩
  imodintro
  isplitl [HH]; · iexact HH
  isplitl [Hg Ht]
  · rw [show (fun d : Dev nD => pghost (F := F) d) = fun d => iprop(Pipeline.cellsGhost (Pipeline.pin (pcfgs (F := F)) adm) EP 0 d ∗ Pipeline.toksInit (Pipeline.pin (pcfgs (F := F)) adm) EP 0 d) from rfl,
      bigSep_sep']
    isplitl [Hg]
    · iapply (Entails.of_eq (show (bigSep Finset.univ fun d : Dev nD => bigSep Finset.univ fun p : Fin 1 => Pipeline.cellsGhost (Pipeline.pin (pcfgs (F := F)) adm) EP p d)
          = (bigSep Finset.univ fun d : Dev nD => (Pipeline.cellsGhost (Pipeline.pin (pcfgs (F := F)) adm) EP 0 d : sProp 𝕄)) from
        bigSep_congr fun d _ => bigSep_univ_of_subsingleton (0 : Fin 1)))
      iexact Hg
    · iapply (Entails.of_eq (show (bigSep Finset.univ fun d : Dev nD => bigSep Finset.univ fun p : Fin 1 => Pipeline.toksInit (Pipeline.pin (pcfgs (F := F)) adm) EP p d)
          = (bigSep Finset.univ fun d : Dev nD => (Pipeline.toksInit (Pipeline.pin (pcfgs (F := F)) adm) EP 0 d : sProp 𝕄)) from
        bigSep_congr fun d _ => bigSep_univ_of_subsingleton (0 : Fin 1)))
      iexact Ht
  rw [show (bigSep Finset.univ fun thr : Thread nD τ => bigSep Finset.univ fun q : Fin 1 => (P (F := F) (inp m)).x q thr) = bigSep Finset.univ fun _ => iprop(emp) from
    bigSep_congr fun _ _ => bigSep_univ_of_subsingleton (0 : Fin 1), bigSep_emp']
  iempintro

/-! ## The program's run -/

/-- What the claims read of device `d`'s final state: every buffer at its last contents. -/
def fq (d : Dev nD) (s' : Phys nD τ sig (Elt F)) : Prop := ∀ b ∈ ucRefs, s'.mem.mem (d, b) = V5 m d b

theorem hfin_one (d : Dev nD) (s' : Phys nD τ sig (Elt F)) (b : DevRef τ sig) (hb : b ∈ ucRefs) :
    iprop(FIN m d ∗ SI s') ⊢ (⌜s'.mem.mem (d, b) = V5 m d b⌝ : sProp 𝕄) := by
  unfold FIN held
  rw [SparseCore.bigSep_erase' hb]
  iintro ⟨⟨Hb, -⟩, HSI⟩
  ihave H := (SI_pointsTo_agree (st := s') (ℓ := (d, b)) (I := Finset.univ) (q := fullShare) (f := V5 m d b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  by_cases h : fq m d s'
  · iintro -
    ipureintro; exact h
  · obtain ⟨b, hb, hne⟩ : ∃ b ∈ ucRefs, s'.mem.mem (d, b) ≠ V5 m d b := by
      by_contra hc
      exact h fun b hb => by_contra fun hne => hc ⟨b, hb, hne⟩
    iintro H
    ihave H := (hfin_one m d s' b hb) $$ H
    icases H with %he
    exact absurd he hne

/-- The final state of a run from launch contents `m`. -/
def QC : PUnit × MemSt nD τ sig (Elt F) → Prop :=
  fun r => (∀ d : Dev nD, ∀ b ∈ ucRefs, r.2.mem (d, b) = V5 m d b) ∧ r.2.sem = fun _ => 0

/-- The program runs to its end, nothing faulting, every semaphore back at zero, every buffer at its last contents. -/
theorem run_main [∀ e, Nonempty (Elt F e)] (hpre : InOK (inp m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (inp m)) (A := ∅) facts v₀
    (fun q hq => match q with | 0 => nomatch hq)
    (fun q _ => match q with | 0 => tileObl (inp m) facts hpre)
    (fun q _ => match q with | 0 => SparseCore.Cfg.VecSplit.of_plain (vecSplit (inp m)))
    m ρ main (fun d => pghost d) (FIN m) (u₀ (F := F)) (sep_elim_left.trans (hu₀ m)) (hmain m ρ) (fq m) (hfin m) (QC m) (fun _ h hz => ⟨h, hz⟩)

end Cert.Proof.KI

end
-- ==== Proof.KI.Frame.lean ====
/-
  The row numbers the gather call meets, from the launch memory, and the run under the claims' precondition.
-/
module

public import proofs.«01_k».proof.Proof.KI.Main
public import proofs.«01_k».proof.Proof.Range

@[expose] public section

noncomputable section

namespace Cert.Proof.KI

open Cert.KernelIdeal Cert.KernelIdeal.Gen

open Idealize.ShloMosaic
open Idealize.ShloMosaic.TcCoe
open Idealize.ShloMosaic.StableHlo (after)
open Idealize.SL.Sem

variable {F : FTy → Type} [FloatOps F] (m : (ℓ : Loc nD τ sig) → Buf (Elt F) ℓ)

/-- The row numbers: the indices transposed, in row-major order. -/
theorem inp_I (d : Dev nD) : (inp m).I d = shapeCast S32x20x80 (shapeCast S51200
    (transpose S50x1024 [1, 0] (m ((d : Thread nD τ).loc main_arg0)) transposes_S1024x50_S50x1024_1_0) shapeCasts_S50x1024_S51200) shapeCasts_S51200_S32x20x80 := by
  show after preOps (V0 m d) (Proc.devRef .tc main_v2) = _
  unfold preOps
  rw [StableHlo.after_cons, StableHlo.after_cons, StableHlo.after_cons, StableHlo.after_nil, StableHlo.reshape_result', StableHlo.reshape_result',
    StableHlo.unary_result']
  rfl

/-- The table is the launch's. -/
theorem inp_X (d : Dev nD) : (inp m).X d = m ((d : Thread nD τ).loc main_arg1) :=
  StableHlo.after_of_writes_sub (r := main_arg1) preOps (V0 m d) pre_writes (by decide)

/-- With every index a row of the table, every row number is. -/
theorem inp_ok (h : ∀ (d : Dev nD) (i : S1024x50.Idx), (m ((d : Thread nD τ).loc main_arg0) i : BitVec 32).toNat < 100000) : InOK (inp m) := by
  intro d j
  rw [inp_I]
  exact h d _

/-- The arguments are outside every scope and nothing writes them. -/
theorem run_args [∀ e, Nonempty (Elt F e)] (ρ : Dev nD → PrngReg) (h : InOK (inp m)) :
    θ_run (Cert.KernelIdeal.defs (F := F)) (Cert.KernelIdeal.threads (F := F)) ⟨m, fun _ => 0, ρ⟩ (fun r => (∀ c : Dev nD,
      r.2.mem ((c : Thread nD τ).loc main_v21) = extractStridedSlice S1024x3 ![0, 0] (lstmRes m c) slices_S1024x128_S1024x3_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run Cert.KernelIdeal.defs _ _).mono (fun r hr => ⟨fun c =>
    ⟨(hr.1 c _ (uc_mem rfl)).trans (V5_res m c),
      (hr.1 c _ (uc_mem rfl)).trans (V5_arg m c main_arg0 (by decide) (by decide) (by decide) (by decide) (by decide)),
      (hr.1 c _ (uc_mem rfl)).trans (V5_arg m c main_arg1 (by decide) (by decide) (by decide) (by decide) (by decide)),
      (hr.1 c _ (uc_mem rfl)).trans (V5_arg m c main_arg2 (by decide) (by decide) (by decide) (by decide) (by decide)),
      (hr.1 c _ (uc_mem rfl)).trans (V5_arg m c main_arg3 (by decide) (by decide) (by decide) (by decide) (by decide)),
      (hr.1 c _ (uc_mem rfl)).trans (V5_arg m c main_arg4 (by decide) (by decide) (by decide) (by decide) (by decide)),
      (hr.1 c _ (uc_mem rfl)).trans (V5_arg m c main_arg5 (by decide) (by decide) (by decide) (by decide) (by decide)),
      (hr.1 c _ (uc_mem rfl)).trans (V5_arg m c main_arg6 (by decide) (by decide) (by decide) (by decide) (by decide)),
      (hr.1 c _ (uc_mem rfl)).trans (V5_arg m c main_arg7 (by decide) (by decide) (by decide) (by decide) (by decide))⟩, hr.2⟩)
    (run_main m ρ h)

end Cert.Proof.KI

end
-- ==== Proof.Frames.lean ====
/-
  The three frames: the kernel's at both readings of its floats, and the reference's.
-/
module

public import proofs.«01_k».proof.Proof.K.Frame
public import proofs.«01_k».proof.Proof.KI.Frame
public import proofs.«01_k».proof.Proof.Gen.ReferenceIdeal.Run
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts Cert.Pre_in_range.Gen.facts

/-- The kernel runs, at any bits in range, and leaves its arguments and semaphores as they were. -/
theorem frame_kernel : Cert.quiescent_Kernel := fun m ρ hpre =>
  (θ_run Cert.Kernel.defs _ _).mono (fun _ h => ⟨fun c => (h.1 c).2, h.2⟩)
    (K.run_args (F := Bits) m ρ (K.inp_ok m fun d i => Range.of_fn _ _ _ _ _ _ _ _ (hpre d) i))

/-- The row numbers are rows of the table, at extended reals. -/
theorem ideal_ok (m : (ℓ : Loc Cert.KernelIdeal.nD Cert.KernelIdeal.τ Cert.KernelIdeal.sig) → Buf (Elt Ideal) ℓ) (hpre : Cert.Pre_KernelIdeal m) :
    KI.InOK (KI.inp m) := KI.inp_ok m fun d i => Range.of_fn _ _ _ _ _ _ _ _ (hpre d) i

/-- The kernel at extended reals. -/
theorem frame_ideal : Cert.quiescent_KernelIdeal := fun m ρ hpre =>
  (θ_run Cert.KernelIdeal.defs _ _).mono (fun _ h => ⟨fun c => (h.1 c).2, h.2⟩)
    (KI.run_args (F := Ideal) m ρ (ideal_ok m hpre))

/-- The reference at extended reals, at any indices: it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference again, with the indices in range. -/
theorem frame_reference_in_range : Cert.quiescent_ReferenceIdeal_pre_in_range := fun m ρ _ => frame_reference m ρ ⟨⟩

end Cert.Proof

end
-- ==== Proof.Value.Sigmoid.lean ====
/-
  The logistic function written two ways: through the hyperbolic tangent and through the exponential.
-/
module

public import proofs.«01_k».proof.Proof.KI.Frame

@[expose] public section

noncomputable section

namespace Cert.Proof.Value

open Idealize.ShloMosaic

/-- The word of one half. -/
theorem half_f32 : Ideal.ofBits .f32 0x3F000000#32 = (((1 : ℝ) / 2 : ℝ) : EReal) := by
  simp [Ideal.ofBits, Ideal.ieee, -EReal.coe_mul]; norm_num

/-- For a real number: half the tangent of the half, plus one half, is the logistic function. -/
theorem half_tanh_real (r : ℝ) : 1 / 2 * Real.tanh (1 / 2 * r) + 1 / 2 = (1 + Real.exp (-r))⁻¹ := by
  rw [Real.tanh_eq_sinh_div_cosh, Real.sinh_eq, Real.cosh_eq]
  have e1 : Real.exp (-r) = Real.exp (-(1 / 2 * r)) * Real.exp (-(1 / 2 * r)) := by rw [← Real.exp_add]; ring_nf
  have e2 : Real.exp (1 / 2 * r) * Real.exp (-(1 / 2 * r)) = 1 := by rw [← Real.exp_add]; simp
  rw [e1]
  have ha := Real.exp_pos (1 / 2 * r)
  have hb := Real.exp_pos (-(1 / 2 * r))
  generalize Real.exp (1 / 2 * r) = a at *
  generalize Real.exp (-(1 / 2 * r)) = b at *
  have h1 : a + b ≠ 0 := by positivity
  have h2 : 1 + b * b ≠ 0 := by positivity
  field_simp
  linear_combination (2 * b) * e2

/-- The same at every extended real: at the infinities both sides are 0 and 1. -/
theorem half_tanh (x : EReal) : (((1 : ℝ) / 2 : ℝ) : EReal) * Ideal.tanh ((((1 : ℝ) / 2 : ℝ) : EReal) * x) + (((1 : ℝ) / 2 : ℝ) : EReal) = Ideal.logistic x := by
  have hp : (0 : ℝ) < 1 / 2 := by norm_num
  induction x with
  | bot =>
    rw [EReal.coe_mul_bot_of_pos hp, Ideal.tanh_bot, Ideal.logistic_bot, show (-1 : EReal) = ((-1 : ℝ) : EReal) by simp, ← EReal.coe_mul, ← EReal.coe_add]
    norm_num
  | coe r =>
    rw [← EReal.coe_mul, Ideal.tanh_coe, Ideal.logistic_coe, ← EReal.coe_mul, ← EReal.coe_add, half_tanh_real]
  | top =>
    rw [EReal.coe_mul_top_of_pos hp, Ideal.tanh_top, Ideal.logistic_top, mul_one, ← EReal.coe_add]
    norm_num

end Cert.Proof.Value

end
-- ==== Proof.Value.Step.lean ====
/-
  One step of the recurrence on extended reals, and the kernel's step as that function of its arrays.
-/
module

public import proofs.«01_k».proof.Proof.Value.Sigmoid
public import Idealize.ShloMosaic.Lib.Pointwise
public import Idealize.ShloMosaic.Lib.IdealHost

@[expose] public section

noncomputable section

namespace Cert.Proof.Value

open Cert.KernelIdeal Cert.KernelIdeal.Gen
open Idealize.ShloMosaic
open Cert.Proof.KI (cat cNext hNext xAt Stt lstmOut)
open scoped BigOperators

/-! ## The step on extended reals -/

/-- The four gates before their activations, of one row: the input's product, the hidden state's product, the two biases. -/
def gates (x : Fin 1024 → Fin 128 → EReal) (h : S1024x512.Idx → EReal) (Wi : Fin 2048 → Fin 128 → EReal) (Wh : Fin 2048 → Fin 512 → EReal)
    (b1 b2 : Fin 2048 → EReal) (r : Fin 1024) (g : Fin 2048) : EReal :=
  (∑ k : Fin 128, x r k * Wi g k) + (∑ k : Fin 512, h (ix2 r k) * Wh g k) + b1 g + b2 g

/-- The next cell state: the forget gate on the old one, plus the input gate on the candidate. -/
def newC (gt : Fin 1024 → Fin 2048 → EReal) (c : S1024x512.Idx → EReal) (r : Fin 1024) (q : Fin 512) : EReal :=
  Ideal.logistic (gt r ⟨512 + q.val, by omega⟩) * c (ix2 r q) + Ideal.logistic (gt r ⟨q.val, by omega⟩) * Ideal.tanh (gt r ⟨1024 + q.val, by omega⟩)

/-- The next hidden state: the output gate on the new cell state's tangent. -/
def newH (gt : Fin 1024 → Fin 2048 → EReal) (c : S1024x512.Idx → EReal) (r : Fin 1024) (q : Fin 512) : EReal :=
  Ideal.logistic (gt r ⟨1536 + q.val, by omega⟩) * Ideal.tanh (newC gt c r q)

/-! ## The kernel's step -/

/-- The product of the joined rows with the joined weights. -/
theorem pay8_apply (a : FVec Ideal S1024x640 .bf16) (w : FVec Ideal S640x2048 .bf16) (r : Fin 1024) (g : Fin 2048) :
    (k1_pay8 (F := Ideal) a w (ix2 r g) : EReal) = ∑ k : Fin 640, (a (ix2 r k) : EReal) * w (ix2 k g) := by
  unfold k1_pay8
  simp only [pointwise]
  rw [zero_add]

/-- The step's input rows. -/
theorem pay7_apply (x : FVec Ideal S1x1024x128 .f32) (r : Fin 1024) (k : Fin 128) : (k1_pay7 (F := Ideal) x (ix2 r k) : EReal) = x (ix3 0 r k) := by
  unfold k1_pay7
  simp only [pointwise]

/-- The joined rows: the input's columns first. -/
theorem cat_left (xv : FVec Ideal S1024x128 .bf16) (h : FVec Ideal S1024x512 .bf16) (r : Fin 1024) (k : Fin 128) :
    (cat xv h (ix2 r (Fin.castAdd 512 k)) : EReal) = xv (ix2 r k) := dif_pos k.isLt

/-- The joined rows: the hidden state's columns after them. -/
theorem cat_right (xv : FVec Ideal S1024x128 .bf16) (h : FVec Ideal S1024x512 .bf16) (r : Fin 1024) (k : Fin 512) :
    (cat xv h (ix2 r (Fin.natAdd 128 k)) : EReal) = h (ix2 r k) := by
  refine (dif_neg (show ¬ 128 + k.val < 128 by omega)).trans (congrArg h (congrArg (ix2 r) (Fin.ext ?_)))
  show 128 + k.val - 128 = k.val
  omega

section
variable (x : FVec Ideal S1x1024x128 .f32) (w : FVec Ideal S640x2048 .bf16) (b : FVec Ideal S1x2048 .f32)
  (s : FVec Ideal S1024x512 .bf16 × FVec Ideal S1024x512 .f32)

/-- The kernel's gates before their activations. -/
def kgate (r : Fin 1024) (g : Fin 2048) : EReal := (k1_pay8 (F := Ideal) (cat (k1_pay7 x) s.1) w (ix2 r g) : EReal) + b (ix2 0 g)

/-- The kernel's next cell state. -/
theorem cNext_apply (r : Fin 1024) (q : Fin 512) : (cNext x w b s (ix2 r q) : EReal) = newC (kgate x w b s) s.2 r q := by
  unfold cNext k1_pay2 k1_pay1 k1_pay9 k1_pay10 k1_pay11 newC k1_pay9 kgate
  generalize k1_pay8 (cat (k1_pay7 x) s.1) w = u
  simp only [pointwise]
  rw [half_f32, half_tanh, half_tanh]
  have e0 : (⟨0 + r.val, by omega⟩ : Fin 1024) = r := Fin.ext (Nat.zero_add _)
  have e1 : (⟨0 + q.val, by omega⟩ : Fin 2048) = ⟨q.val, by omega⟩ := Fin.ext (Nat.zero_add _)
  show Ideal.logistic (u (ix2 (⟨0 + r.val, _⟩ : Fin 1024) (⟨512 + q.val, _⟩ : Fin 2048)) + b (ix2 0 ⟨512 + q.val, _⟩)) * s.2 (ix2 r q)
    + Ideal.logistic (u (ix2 (⟨0 + r.val, _⟩ : Fin 1024) (⟨0 + q.val, _⟩ : Fin 2048)) + b (ix2 0 ⟨0 + q.val, _⟩))
    * Ideal.tanh (u (ix2 (⟨0 + r.val, _⟩ : Fin 1024) (⟨1024 + q.val, _⟩ : Fin 2048)) + b (ix2 0 ⟨1024 + q.val, _⟩)) = _
  rw [e0, e1]

/-- The kernel's next hidden state. -/
theorem hNext_apply (r : Fin 1024) (q : Fin 512) : (hNext x w b s (ix2 r q) : EReal) = newH (kgate x w b s) s.2 r q := by
  have hc := cNext_apply x w b s r q
  unfold newH
  rw [← hc]
  unfold cNext hNext k1_pay2 k1_pay3 kgate k1_pay9
  generalize k1_pay1 (F := Ideal) _ _ _ _ _ = v
  generalize k1_pay8 (cat (k1_pay7 x) s.1) w = u
  simp only [pointwise]
  rw [half_f32, half_tanh]
  have e0 : (⟨0 + r.val, by omega⟩ : Fin 1024) = r := Fin.ext (Nat.zero_add _)
  show Ideal.logistic (u (ix2 (⟨0 + r.val, _⟩ : Fin 1024) (⟨1536 + q.val, _⟩ : Fin 2048)) + b (ix2 0 ⟨1536 + q.val, _⟩)) * _ = _
  rw [e0]

/-- The kernel's gates are the recurrence's, at weights joined of the two and the sum of the two biases. -/
theorem kgate_eq (Wi : Fin 2048 → Fin 128 → EReal) (Wh : Fin 2048 → Fin 512 → EReal) (b1 b2 : Fin 2048 → EReal)
    (hi : ∀ g k, (w (ix2 (Fin.castAdd 512 k) g) : EReal) = Wi g k) (hh : ∀ g k, (w (ix2 (Fin.natAdd 128 k) g) : EReal) = Wh g k)
    (hb : ∀ g, (b (ix2 0 g) : EReal) = b1 g + b2 g) (r : Fin 1024) (g : Fin 2048) :
    kgate x w b s r g = gates (fun r k => x (ix3 0 r k)) s.1 Wi Wh b1 b2 r g := by
  unfold kgate gates
  rw [pay8_apply, hb, add_assoc (_ + _) (b1 g) (b2 g)]
  refine congrArg (· + _) ((Fin.sum_univ_add (a := 128) (b := 512) _).trans (congrArg₂ (· + ·) ?_ ?_))
  · refine Finset.sum_congr rfl fun k _ => ?_
    rw [cat_left, pay7_apply, hi]
  · refine Finset.sum_congr rfl fun k _ => ?_
    rw [cat_right, hh]
end

end Cert.Proof.Value

end
-- ==== Proof.Value.Inputs.lean ====
/-
  What the LSTM call of the kernel's program meets in its five arrays, as functions of the program's arguments.
-/
module

public import proofs.«01_k».proof.Proof.Value.Step
public import Idealize.ShloMosaic.Lib.Routing.OpsSet

@[expose] public section

noncomputable section

namespace Cert.Proof.Value

open Cert.KernelIdeal Cert.KernelIdeal.Gen
open Idealize.ShloMosaic Idealize.ShloMosaic.TcCoe Idealize.ShloMosaic.StableHlo
open Cert.Proof.KI (V1 V2 V3 preOps postOps preW pre_writes inp G xix i3of inp_I inp_X V2_o V2_ne)
open scoped BigOperators

variable (m : (ℓ : Loc nD τ sig) → Buf (Elt Ideal) ℓ) (d : Dev nD)

/-! ## The arguments as functions of coordinates -/

/-- The index of sequence `r` at position `t`. -/
def aIdx (r : Fin 1024) (t : Fin 50) : BitVec 32 := (m ((d : Thread nD τ).loc main_arg0) : IVec S1024x50 32) (ix2 r t)
/-- The embedding table. -/
def aEmb (v : Fin 100000) (k : Fin 128) : EReal := (m ((d : Thread nD τ).loc main_arg1) : FVec Ideal S100000x128 .f32) (ix2 v k)
/-- The input weights. -/
def aWi (g : Fin 2048) (k : Fin 128) : EReal := (m ((d : Thread nD τ).loc main_arg2) : FVec Ideal S2048x128 .f32) (ix2 g k)
/-- The hidden weights. -/
def aWh (g : Fin 2048) (k : Fin 512) : EReal := (m ((d : Thread nD τ).loc main_arg3) : FVec Ideal S2048x512 .f32) (ix2 g k)
/-- The first bias. -/
def aB1 (g : Fin 2048) : EReal := (m ((d : Thread nD τ).loc main_arg4) : FVec Ideal S2048 .f32) (ix1 g)
/-- The second bias. -/
def aB2 (g : Fin 2048) : EReal := (m ((d : Thread nD τ).loc main_arg5) : FVec Ideal S2048 .f32) (ix1 g)
/-- The classifier's weights. -/
def aWc (o : Fin 3) (k : Fin 512) : EReal := (m ((d : Thread nD τ).loc main_arg6) : FVec Ideal S3x512 .f32) (ix2 o k)
/-- The classifier's bias. -/
def aBc (o : Fin 3) : EReal := (m ((d : Thread nD τ).loc main_arg7) : FVec Ideal S3 .f32) (ix1 o)

/-- An argument is the launch's until the LSTM call's operands are made. -/
theorem V2_arg (b : Ref sig .tc) (h0 : b ∉ preW) (h1 : b ≠ main_v3) : V2 m d (Proc.devRef .tc b) = m ((d : Thread nD τ).loc b) := by
  rw [V2_ne m d b h1]
  unfold V1
  rw [StableHlo.after_of_writes_sub preOps _ pre_writes h0]
  rfl

/-! ## The joined weights and the bias -/

/-- The joined weights as the operations make them. -/
theorem w_ops : (V3 m d (Proc.devRef .tc main_v18) : FVec Ideal S640x2048 .bf16) = truncf .bf16 (concatenate S640x2048 0
    [⟨S128x2048, transpose S128x2048 [1, 0] (V2 m d (Proc.devRef .tc main_arg2)) transposes_S2048x128_S128x2048_1_0⟩,
     ⟨S512x2048, transpose S512x2048 [1, 0] (V2 m d (Proc.devRef .tc main_arg3)) transposes_S2048x512_S512x2048_1_0⟩]
    concatenates_S128x2048_S512x2048_S640x2048_d0 : FVec Ideal S640x2048 .f32) bitsLt_bf16_f32 := by
  unfold V3 postOps
  after_results

/-- The joined weights' first rows are the input weights. -/
theorem w_left (g : Fin 2048) (k : Fin 128) : ((V3 m d (Proc.devRef .tc main_v18) : FVec Ideal S640x2048 .bf16) (ix2 (Fin.castAdd 512 k) g) : EReal) = aWi m d g k := by
  rw [w_ops, V2_arg m d main_arg2 (by decide) (by decide)]
  simp only [pointwise]
  rw [dif_pos (show (Fin.castAdd 512 k).val < 128 from k.isLt)]
  rfl

/-- The joined weights' other rows are the hidden weights. -/
theorem w_right (g : Fin 2048) (k : Fin 512) : ((V3 m d (Proc.devRef .tc main_v18) : FVec Ideal S640x2048 .bf16) (ix2 (Fin.natAdd 128 k) g) : EReal) = aWh m d g k := by
  rw [w_ops, V2_arg m d main_arg3 (by decide) (by decide)]
  simp only [pointwise]
  rw [dif_neg (show ¬ (Fin.natAdd 128 k).val < 128 by simp)]
  unfold aWh
  refine congrArg _ (congrArg₂ ix2 (Fin.ext ?_) (Fin.ext ?_))
  · rfl
  · show 128 + k.val - 128 = k.val
    omega

/-- The bias row is the sum of the two biases. -/
theorem b_row (g : Fin 2048) : ((V3 m d (Proc.devRef .tc main_v9) : FVec Ideal S1x2048 .f32) (ix2 0 g) : EReal) = aB1 m d g + aB2 m d g := by
  have e : (V3 m d (Proc.devRef .tc main_v9) : FVec Ideal S1x2048 .f32) = (shapeCast S1x2048 (addf (V2 m d (Proc.devRef .tc main_arg4) : FVec Ideal S2048 .f32) (V2 m d (Proc.devRef .tc main_arg5) : FVec Ideal S2048 .f32) : FVec Ideal S2048 .f32) shapeCasts_S2048_S1x2048 : FVec Ideal S1x2048 .f32) := by
    unfold V3 postOps
    after_results
    rfl
  rw [e, V2_arg m d main_arg4 (by decide) (by decide), V2_arg m d main_arg5 (by decide) (by decide)]
  simp only [pointwise]
  rfl

/-! ## The classifier -/

/-- Where an update of the padded weights lands: at its own coordinates. -/
theorem wc_lands (j : S512x3.Idx) : scatter_S512x128_S1_S512x3_01_n_1_0.resultIdx? j (broadcastInDim S1 ![] bcast_S_S1 (constantI S_ 32 0#32))
    = some (ix2 (j 0) ⟨(j 1).val, (j 1).isLt.trans (by decide)⟩ : S512x128.Idx) := by
  have hs : ∀ a, scatter_S512x128_S1_S512x3_01_n_1_0.start j (broadcastInDim S1 ![] bcast_S_S1 (constantI S_ 32 0#32)) a = 0 := fun a => by
    unfold ScatterDims.start; split <;> rfl
  have h0 : scatter_S512x128_S1_S512x3_01_n_1_0.window j 0 = (j 0).val := rfl
  have h1 : scatter_S512x128_S1_S512x3_01_n_1_0.window j 1 = (j 1).val := rfl
  have l0 : (j 0).val < 512 := (j 0).isLt
  have l1 : (j 1).val < 3 := (j 1).isLt
  unfold ScatterDims.resultIdx?
  rw [dif_pos]
  · refine congrArg some (funext fun a => ?_)
    match a with
    | 0 => exact Fin.ext ((congrArg₂ (fun (x : Int) (y : ℕ) => (x + (y : Int)).toNat) (hs 0) h0).trans (show ((0 : Int) + ((j 0).val : Int)).toNat = (j 0).val by omega))
    | 1 => exact Fin.ext ((congrArg₂ (fun (x : Int) (y : ℕ) => (x + (y : Int)).toNat) (hs 1) h1).trans (show ((0 : Int) + ((j 1).val : Int)).toNat = (j 1).val by omega))
  · intro a
    rw [hs]
    match a with
    | 0 => rw [h0]; refine ⟨by omega, ?_⟩; show _ < ((512 : ℕ) : Int); omega
    | 1 => rw [h1]; refine ⟨by omega, ?_⟩; show _ < ((128 : ℕ) : Int); omega

/-- Where an update of the padded bias lands: at its own coordinates. -/
theorem bc_lands (j : S1x3.Idx) : scatter_S1x128_S1_S1x3_01_n_1_0.resultIdx? j (broadcastInDim S1 ![] bcast_S_S1 (constantI S_ 32 0#32))
    = some (ix2 (j 0) ⟨(j 1).val, (j 1).isLt.trans (by decide)⟩ : S1x128.Idx) := by
  have hs : ∀ a, scatter_S1x128_S1_S1x3_01_n_1_0.start j (broadcastInDim S1 ![] bcast_S_S1 (constantI S_ 32 0#32)) a = 0 := fun a => by
    unfold ScatterDims.start; split <;> rfl
  have h0 : scatter_S1x128_S1_S1x3_01_n_1_0.window j 0 = (j 0).val := rfl
  have h1 : scatter_S1x128_S1_S1x3_01_n_1_0.window j 1 = (j 1).val := rfl
  have l0 : (j 0).val < 1 := (j 0).isLt
  have l1 : (j 1).val < 3 := (j 1).isLt
  unfold ScatterDims.resultIdx?
  rw [dif_pos]
  · refine congrArg some (funext fun a => ?_)
    match a with
    | 0 => exact Fin.ext ((congrArg₂ (fun (x : Int) (y : ℕ) => (x + (y : Int)).toNat) (hs 0) h0).trans (show ((0 : Int) + ((j 0).val : Int)).toNat = (j 0).val by omega))
    | 1 => exact Fin.ext ((congrArg₂ (fun (x : Int) (y : ℕ) => (x + (y : Int)).toNat) (hs 1) h1).trans (show ((0 : Int) + ((j 1).val : Int)).toNat = (j 1).val by omega))
  · intro a
    rw [hs]
    match a with
    | 0 => rw [h0]; refine ⟨by omega, ?_⟩; show _ < ((1 : ℕ) : Int); omega
    | 1 => rw [h1]; refine ⟨by omega, ?_⟩; show _ < ((128 : ℕ) : Int); omega

/-- The padded classifier weights as the operations make them. -/
theorem wc_ops : (V3 m d (Proc.devRef .tc main_v19) : FVec Ideal S512x128 .bf16) = truncf .bf16 (Host.scatter scatter_S512x128_S1_S512x3_01_n_1_0 (fun _ b => b)
    (broadcastInDim S512x128 ![] bcast_S_S512x128 (constant S_ .f32 0x00000000#32)) (broadcastInDim S1 ![] bcast_S_S1 (constantI S_ 32 0#32))
    (transpose S512x3 [1, 0] (V2 m d (Proc.devRef .tc main_arg6)) transposes_S3x512_S512x3_1_0) : FVec Ideal S512x128 .f32) bitsLt_bf16_f32 := by
  unfold V3 postOps
  after_results

/-- The padded classifier bias as the operations make it. -/
theorem bc_ops : (V3 m d (Proc.devRef .tc main_v17) : FVec Ideal S1x128 .f32) = (Host.scatter scatter_S1x128_S1_S1x3_01_n_1_0 (fun _ b => b)
    (broadcastInDim S1x128 ![] bcast_S_S1x128 (constant S_ .f32 0x00000000#32)) (broadcastInDim S1 ![] bcast_S_S1 (constantI S_ 32 0#32))
    (broadcastInDim S1x3 ![1] bcast_S3_S1x3_1 (V2 m d (Proc.devRef .tc main_arg7) : FVec Ideal S3 .f32) : FVec Ideal S1x3 .f32) : FVec Ideal S1x128 .f32) := by
  unfold V3 postOps
  after_results

/-- The padded weights' first three columns are the weights written. -/
theorem wc_hit (x0 : S512x128.Idx → EReal) (u : S512x3.Idx → EReal) (k : Fin 512) (o : Fin 3) :
    Host.scatter scatter_S512x128_S1_S512x3_01_n_1_0 (fun _ b => b) x0 (broadcastInDim S1 ![] bcast_S_S1 (constantI S_ 32 0#32)) u (ix2 k (Fin.castLE (by decide) o)) = u (ix2 k o) := by
  refine Routing.scatter_set_hit scatter_S512x128_S1_S512x3_01_n_1_0 _ _ _ _ _ (fun j hj => ?_) (ix2 k o) (wc_lands _)
  have hj := Option.some.inj ((wc_lands j).symm.trans hj)
  have e0 : j 0 = k := congrFun hj 0
  have e1 : j 1 = o := Fin.ext (congrArg (fun q : S512x128.Idx => (q 1).val) hj)
  exact congrArg u (funext fun a => match a with | 0 => e0 | 1 => e1)

/-- The padded bias's first three columns are the bias written. -/
theorem bc_hit (x0 : S1x128.Idx → EReal) (u : S1x3.Idx → EReal) (o : Fin 3) :
    Host.scatter scatter_S1x128_S1_S1x3_01_n_1_0 (fun _ b => b) x0 (broadcastInDim S1 ![] bcast_S_S1 (constantI S_ 32 0#32)) u (ix2 0 (Fin.castLE (by decide) o)) = u (ix2 0 o) := by
  refine Routing.scatter_set_hit scatter_S1x128_S1_S1x3_01_n_1_0 _ _ _ _ _ (fun j hj => ?_) (ix2 0 o) (bc_lands _)
  have hj := Option.some.inj ((bc_lands j).symm.trans hj)
  have e0 : j 0 = (0 : Fin 1) := congrFun hj 0
  have e1 : j 1 = o := Fin.ext (congrArg (fun q : S1x128.Idx => (q 1).val) hj)
  exact congrArg u (funext fun a => match a with | 0 => e0 | 1 => e1)

/-- Narrowing an ideal number keeps it. -/
theorem narrow {s : Shape} (x : FVec Ideal s .f32) (i : s.Idx) : (truncf .bf16 x bitsLt_bf16_f32 i : EReal) = x i := rfl

/-- The padded classifier weights' first three columns. -/
theorem wc_col (k : Fin 512) (o : Fin 3) : ((V3 m d (Proc.devRef .tc main_v19) : FVec Ideal S512x128 .bf16) (ix2 k (Fin.castLE (by decide) o)) : EReal) = aWc m d o k := by
  rw [wc_ops, narrow]
  refine (wc_hit _ _ k o).trans ?_
  rw [V2_arg m d main_arg6 (by decide) (by decide)]
  simp only [pointwise]
  rfl

/-- The padded classifier bias's first three columns. -/
theorem bc_col (o : Fin 3) : ((V3 m d (Proc.devRef .tc main_v17) : FVec Ideal S1x128 .f32) (ix2 0 (Fin.castLE (by decide) o)) : EReal) = aBc m d o := by
  rw [bc_ops]
  refine (bc_hit _ _ o).trans ?_
  rw [V2_arg m d main_arg7 (by decide) (by decide)]
  simp only [pointwise]
  rfl

/-! ## The embedded sequence -/

/-- Row `1024 t + r` of the gathered array is row `r` at time `t`. -/
theorem row_at (f : S51200x128.Idx → EReal) (t : Fin 50) (r : Fin 1024) (k : Fin 128) :
    shapeCast S50x1024x128 f shapeCasts_S51200x128_S50x1024x128 (ix3 t r k) = f (ix2 ⟨t.val * 1024 + r.val, by omega⟩ k) := by
  refine congrArg f (Shape.reshapeEquiv_eq_of_rowMajor _ ?_)
  have h2 : (S51200x128.rowMajor (ix2 ⟨t.val * 1024 + r.val, by omega⟩ k)).val = (t.val * 1024 + r.val) * 128 + k.val := Shape.rowMajor_val_two (d := ![51200, 128]) _
  have h3 : (S50x1024x128.rowMajor (ix3 t r k)).val = (t.val * 1024 + r.val) * 128 + k.val := Shape.rowMajor_val_three (d := ![50, 1024, 128]) _
  exact h2.trans h3.symm

/-- Entry `n` of the row numbers, laid out for the tiles, is entry `n` of their list. -/
theorem tile_at (f : S51200.Idx → BitVec 32) (n : Fin 51200) :
    shapeCast S32x20x80 f shapeCasts_S51200_S32x20x80 (i3of n) = f (ix1 n) := by
  refine congrArg f (Shape.reshapeEquiv_eq_of_rowMajor _ ?_)
  refine (Shape.rowMajor_val_one (d := ![51200]) _).trans ((Shape.rowMajor_val_three (d := ![32, 20, 80]) _).trans ?_).symm
  show (n.val / 1600 * 20 + n.val % 1600 / 80) * 80 + n.val % 80 = n.val
  omega

/-- Entry `1024 t + r` of that list is the index of sequence `r` at position `t`. -/
theorem list_at (f : S50x1024.Idx → BitVec 32) (t : Fin 50) (r : Fin 1024) :
    shapeCast S51200 f shapeCasts_S50x1024_S51200 (ix1 ⟨t.val * 1024 + r.val, by omega⟩) = f (ix2 t r) := by
  refine congrArg f (Shape.reshapeEquiv_eq_of_rowMajor _ ?_)
  have h2 : (S50x1024.rowMajor (ix2 t r)).val = t.val * 1024 + r.val := Shape.rowMajor_val_two (d := ![50, 1024]) _
  have h1 : (S51200.rowMajor (ix1 ⟨t.val * 1024 + r.val, by omega⟩)).val = t.val * 1024 + r.val := Shape.rowMajor_val_one (d := ![51200]) _
  exact h2.trans h1.symm

/-- The row number of row `1024 t + r`. -/
theorem idx_at (t : Fin 50) (r : Fin 1024) : ((inp m).I d (i3of ⟨t.val * 1024 + r.val, by omega⟩) : BitVec 32) = aIdx m d r t := by
  rw [inp_I]
  refine (tile_at _ _).trans ((list_at _ t r).trans ?_)
  simp only [pointwise]
  rfl

/-- The gathered array at row `1024 t + r`. -/
theorem gathered (t : Fin 50) (r : Fin 1024) (k : Fin 128) : ((G (inp m) d : FVec Ideal S51200x128 .f32) (ix2 ⟨t.val * 1024 + r.val, by omega⟩ k) : EReal)
    = aEmb m d ⟨(aIdx m d r t).toNat % 100000, Nat.mod_lt _ (by decide)⟩ k := by
  rw [← idx_at]
  show (inp m).X d (xix ((inp m).I d (i3of ⟨t.val * 1024 + r.val, _⟩)) k) = _
  rw [inp_X]
  exact congrArg _ (funext fun a => match a with | 0 => rfl | 1 => rfl)

/-- The LSTM call's sequence: at time `t`, row `r`, the table's row that index `(r, t)` names. -/
theorem x_row (t : Fin 50) (r : Fin 1024) (k : Fin 128) : ((V3 m d (Proc.devRef .tc main_v4) : FVec Ideal S50x1024x128 .f32) (ix3 t r k) : EReal)
    = aEmb m d ⟨(aIdx m d r t).toNat % 100000, Nat.mod_lt _ (by decide)⟩ k := by
  have e : (V3 m d (Proc.devRef .tc main_v4) : FVec Ideal S50x1024x128 .f32)
      = (shapeCast S50x1024x128 (G (inp m) d : FVec Ideal S51200x128 .f32) shapeCasts_S51200x128_S50x1024x128 : FVec Ideal S50x1024x128 .f32) := by
    unfold V3 postOps
    after_results
    rw [V2_o]
    rfl
  rw [e]
  exact (row_at _ t r k).trans (gathered m d t r k)

end Cert.Proof.Value

end
-- ==== Proof.Value.RefStep.lean ====
/-
  One trip of the reference's loop, entry by entry: its gates, its next cell state and its next hidden state are those of the mathematics.
-/
module

public import proofs.«01_k».proof.Proof.Value.Step
public import proofs.«01_k».proof.Proof.Gen.ReferenceIdeal.Run

@[expose] public section

noncomputable section

namespace Cert.Proof.Value

open Cert.ReferenceIdeal Cert.ReferenceIdeal.Gen Cert.ReferenceIdeal.Value
open Idealize.ShloMosaic Idealize.ShloMosaic.TcCoe Idealize.ShloMosaic.StableHlo
open scoped BigOperators

variable (V : Valuation τ sig (Elt Ideal))

/-- The sequence the loop carries. -/
abbrev rX : FVec Ideal S50x1024x128 .f32 := V (Proc.devRef .tc main_v4_0)
/-- The input weights it carries. -/
abbrev rWi : FVec Ideal S2048x128 .f32 := V (Proc.devRef .tc main_v4_1)
/-- The hidden weights it carries. -/
abbrev rWh : FVec Ideal S2048x512 .f32 := V (Proc.devRef .tc main_v4_2)
/-- The first bias it carries. -/
abbrev rB1 : FVec Ideal S2048 .f32 := V (Proc.devRef .tc main_v4_3)
/-- The second bias it carries. -/
abbrev rB2 : FVec Ideal S2048 .f32 := V (Proc.devRef .tc main_v4_4)
/-- The hidden state it carries. -/
abbrev rH : FVec Ideal S1024x512 .f32 := V (Proc.devRef .tc main_v4_6)
/-- The cell state it carries. -/
abbrev rC : FVec Ideal S1024x512 .f32 := V (Proc.devRef .tc main_v4_7)

/-- A number below 50 is itself as a signed word. -/
theorem word_toInt (n : Fin 50) : (BitVec.ofNat 32 n.val).toInt = n.val := by
  revert n
  decide

/-- The gates of trip `n`. -/
theorem ref_gates (n : Fin 50) (hn : V (Proc.devRef .tc main_v4_5) = fun _ => BitVec.ofNat 32 n.val) (r : Fin 1024) (g : Fin 2048) :
    ((res_main_while0b_v21 V : FVec Ideal S1024x2048 .f32) (ix2 r g) : EReal)
      = gates (fun r k => rX V (ix3 n r k)) (rH V) (fun g k => rWi V (ix2 g k)) (fun g k => rWh V (ix2 g k)) (fun g => rB1 V (ix1 g)) (fun g => rB2 V (ix1 g)) r g := by
  unfold res_main_while0b_v21
  simp only [pointwise]
  unfold gates
  refine congrArg₂ (· + ·) (congrArg₂ (· + ·) (congrArg₂ (· + ·) ?_ (zero_add _)) rfl) rfl
  refine (zero_add _).trans (Finset.sum_congr rfl fun x _ => congrArg (· * _) (congrArg (rX V) (funext fun a => ?_)))
  match a with
  | 0 =>
    refine Fin.ext ?_
    show (min (max (V (Proc.devRef .tc main_v4_5) (Shape.Idx.first h_S_) : BitVec 32).toInt 0) ((50 - 1 : ℕ) : Int)).toNat + 0 = n.val
    rw [hn, word_toInt]
    omega
  | 1 => exact Fin.ext (Nat.zero_add _)
  | 2 => exact Fin.ext (Nat.zero_add _)

/-- The cell state after a trip. -/
theorem ref_c (r : Fin 1024) (q : Fin 512) : ((step_main_v4_7 V : FVec Ideal S1024x512 .f32) (ix2 r q) : EReal)
    = newC (fun r g => (res_main_while0b_v21 V : FVec Ideal S1024x2048 .f32) (ix2 r g)) (rC V) r q := by
  unfold step_main_v4_7 res_main_while0b_v47
  generalize (res_main_while0b_v21 V) = gt
  simp only [pointwise, id]
  refine congrArg₂ (· + ·) (congrArg (· * _) (congrArg Ideal.logistic (congrArg gt (funext fun a => ?_))))
    (congrArg₂ (· * ·) (congrArg Ideal.logistic (congrArg gt (funext fun a => ?_))) (congrArg Ideal.tanh (congrArg gt (funext fun a => ?_))))
  · match a with
    | 0 => exact Fin.ext (Nat.zero_add _)
    | 1 => rfl
  · match a with
    | 0 => exact Fin.ext (Nat.zero_add _)
    | 1 => exact Fin.ext (Nat.zero_add _)
  · match a with
    | 0 => exact Fin.ext (Nat.zero_add _)
    | 1 => rfl

/-- The hidden state after a trip. -/
theorem ref_h (r : Fin 1024) (q : Fin 512) : ((step_main_v4_6 V : FVec Ideal S1024x512 .f32) (ix2 r q) : EReal)
    = newH (fun r g => (res_main_while0b_v21 V : FVec Ideal S1024x2048 .f32) (ix2 r g)) (rC V) r q := by
  have hc := ref_c V r q
  unfold step_main_v4_7 at hc
  unfold step_main_v4_6
  simp only [pointwise, id] at hc ⊢
  refine congrArg₂ (· * ·) (congrArg Ideal.logistic (congrArg (res_main_while0b_v21 V) (funext fun a => ?_))) (congrArg Ideal.tanh hc)
  match a with
  | 0 => exact Fin.ext (Nat.zero_add _)
  | 1 => rfl

end Cert.Proof.Value

end
-- ==== Proof.Value.RefTake.lean ====
/-
  The reference's embedding lookup: with every index a row of the table, entry `(r, t)` is the row that index names.
-/
module

public import proofs.«01_k».proof.Proof.Range
public import proofs.«01_k».proof.Proof.Gen.ReferenceIdeal
public import Idealize.ShloMosaic.Lib.Pointwise
public import Idealize.ShloMosaic.Lib.IdealHost

@[expose] public section

noncomputable section

namespace Cert.Proof.Value

open Cert.ReferenceIdeal Cert.ReferenceIdeal.Gen
open Idealize.ShloMosaic

/-! ## Words -/

/-- A row number isn't negative as a signed word. -/
theorem row_slt (v : BitVec 32) (h : v.toNat < 100000) : IntOp.cmpi .slt v 0#32 = 0#1 := by
  have ofBool (p : Bool) : (BitVec.ofBool p = 0#1) ↔ p = false := by cases p <;> decide
  simp only [IntOp.cmpi, ofBool, BitVec.slt_eq_decide, decide_eq_false_iff_not, BitVec.toInt_eq_toNat_cond, BitVec.toNat_ofNat, Nat.reducePow, Nat.reduceMod]
  omega

/-- A row number passes both tests of the bounds. -/
theorem row_bounds (v : BitVec 32) (h : v.toNat < 100000) : IntOp.andi (IntOp.cmpi .sge v 0#32) (IntOp.cmpi .sle v 99999#32) = 1#1 := by
  have ofBool (p : Bool) : (BitVec.ofBool p = 1#1) ↔ p = true := by cases p <;> decide
  rw [Range.andi_eq_one]
  simp only [IntOp.cmpi, ofBool, BitVec.sle_eq_decide, decide_eq_true_eq, BitVec.toInt_eq_toNat_cond, BitVec.toNat_ofNat, Nat.reducePow, Nat.reduceMod]
  omega

/-- A row number is its own clamp. -/
theorem row_clamp (v : BitVec 32) (h : v.toNat < 100000) : min v.toInt.toNat 99999 = v.toNat % 100000 := by
  rw [BitVec.toInt_eq_toNat_cond]
  omega

/-! ## The lookup -/

variable (x : FVec Ideal S100000x128 .f32) (i : IVec S1024x50 32)

/-- The indices, a negative one counted from the table's end. -/
def rIdx : IVec S1024x50 32 := select (cmpi .slt i (broadcastInDim S1024x50 ![] bcast_S_S1024x50 (constantI S_ 32 0#32)))
  (addi i (broadcastInDim S1024x50 ![] bcast_S_S1024x50 (constantI S_ 32 100000#32))) i
/-- The same with an axis for the index vector. -/
def rIdx3 : IVec S1024x50x1 32 := broadcastInDim S1024x50x1 ![0, 1] bcast_S1024x50_S1024x50x1_0_1 (rIdx i)
/-- Which indices are in the table. -/
def rMask3 : IVec S1024x50x1 1 := andi (cmpi .sge (rIdx3 i) (broadcastInDim S1024x50x1 ![] bcast_S_S1024x50x1 (constantI S_ 32 0#32)))
  (cmpi .sle (rIdx3 i) (broadcastInDim S1024x50x1 ![0, 1, 2] bcast_S1x1x1_S1024x50x1_0_1_2 (broadcastInDim S1x1x1 ![2] bcast_S1_S1x1x1_2 (constantI S1 32 99999#32))))
/-- The same with the axis taken away. -/
def rMask : IVec S1024x50 1 := Host.reduce IntOp.andi (rMask3 i) (constantI S_ 1 1#1) reducesTo_S1024x50x1_S1024x50_d2 h_S_
/-- The lookup, an index outside the table answered by the constant. -/
def rTake : FVec Ideal S1024x50x128 .f32 := select (broadcastInDim S1024x50x128 ![0, 1] bcast_S1024x50_S1024x50x128_0_1 (rMask i))
  (Host.gather gather_S100000x128_S1024x50x1_S1024x50x128_2_0_n_n_0_2_1128 x (rIdx3 i))
  (broadcastInDim S1024x50x128 ![] bcast_S_S1024x50x128 (constant S_ .f32 0x7FC00000#32))

variable (h : ∀ j, (i j).toNat < 100000)
include h

/-- An index in the table is looked up as it is. -/
theorem rIdx_eq : rIdx i = i := funext fun j => by
  show Scalar.select (IntOp.cmpi .slt (i j) 0#32) _ _ = _
  rw [row_slt _ (h j)]
  rfl

/-- With the axis too. -/
theorem rIdx3_apply (j : S1024x50x1.Idx) : rIdx3 i j = i (ix2 (j 0) (j 1)) := by
  unfold rIdx3
  rw [rIdx_eq i h]
  exact congrArg i (funext fun a => match a with | 0 => rfl | 1 => rfl)

/-- Every index is in the table. -/
theorem rMask_eq : rMask i = fun _ => 1#1 := funext fun j => by
  simp only [rMask, Host.reduce]
  refine (Range.foldl_andi _ _ _).2 ⟨rfl, fun n _ => ?_⟩
  generalize S1024x50x1.rowMajor.symm n = p
  show IntOp.andi (IntOp.cmpi .sge (rIdx3 i p) 0#32) (IntOp.cmpi .sle (rIdx3 i p) 99999#32) = 1#1
  exact row_bounds _ (by rw [rIdx3_apply i h]; exact h _)

/-- The gather reads the row its index names. -/
theorem gather_at (r : Fin 1024) (t : Fin 50) (k : Fin 128) :
    (Host.gather gather_S100000x128_S1024x50x1_S1024x50x128_2_0_n_n_0_2_1128 x (rIdx3 i) (ix3 r t k) : EReal)
      = x (ix2 ⟨(i (ix2 r t)).toNat % 100000, Nat.mod_lt _ (by decide)⟩ k) := by
  unfold Host.gather
  refine congrArg x (funext fun a => Fin.ext ?_)
  show gather_S100000x128_S1024x50x1_S1024x50x128_2_0_n_n_0_2_1128.start (ix3 r t k) (rIdx3 i) a
    + gather_S100000x128_S1024x50x1_S1024x50x128_2_0_n_n_0_2_1128.batchCoord (ix3 r t k) a
    + gather_S100000x128_S1024x50x1_S1024x50x128_2_0_n_n_0_2_1128.offCoord (ix3 r t k) a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    have hs : gather_S100000x128_S1024x50x1_S1024x50x128_2_0_n_n_0_2_1128.start (ix3 r t k) (rIdx3 i) 0
        = min (rIdx3 i (ix3 r t 0)).toInt.toNat 99999 := by
      unfold GatherDims.start
      rw [dif_pos (show (0 : Fin 2) ∈ gather_S100000x128_S1024x50x1_S1024x50x128_2_0_n_n_0_2_1128.startIndexMap from List.mem_singleton.mpr rfl)]
      refine congrArg (fun p => min (rIdx3 i p).toInt.toNat 99999) (funext fun b => Fin.ext ?_)
      match b with
      | 0 => rfl
      | 1 => rfl
      | 2 => rfl
    rw [hs, rIdx3_apply i h]
    exact row_clamp _ (h _)
  | 1 =>
    have hs : gather_S100000x128_S1024x50x1_S1024x50x128_2_0_n_n_0_2_1128.start (ix3 r t k) (rIdx3 i) 1 = 0 := by
      unfold GatherDims.start
      rw [dif_neg (show ¬ (1 : Fin 2) ∈ gather_S100000x128_S1024x50x1_S1024x50x128_2_0_n_n_0_2_1128.startIndexMap by decide)]
    rw [hs, Nat.zero_add]
    rfl

/-- The lookup at an entry. -/
theorem rTake_apply (r : Fin 1024) (t : Fin 50) (k : Fin 128) :
    (rTake x i (ix3 r t k) : EReal) = x (ix2 ⟨(i (ix2 r t)).toNat % 100000, Nat.mod_lt _ (by decide)⟩ k) := by
  unfold rTake
  rw [rMask_eq i h]
  exact gather_at x i h r t k

end Cert.Proof.Value

end
-- ==== Proof.Value.RefEntry.lean ====
/-
  What the reference's loop carries on entry, and what its trips keep.
-/
module

public import proofs.«01_k».proof.Proof.Value.RefStep
public import proofs.«01_k».proof.Proof.Value.RefTake

@[expose] public section

noncomputable section

namespace Cert.Proof.Value

open Cert.ReferenceIdeal Cert.ReferenceIdeal.Gen Cert.ReferenceIdeal.Value
open Idealize.ShloMosaic Idealize.ShloMosaic.TcCoe Idealize.ShloMosaic.StableHlo

variable (m : (ℓ : Loc nD τ sig) → Buf (Elt Ideal) ℓ) (c : Dev nD)

/-- The loop's entry. -/
abbrev rE : Valuation τ sig (Elt Ideal) := entryContents preI m c

/-! ## The entry -/

set_option maxRecDepth 8192 in
/-- The lookup's result is `rTake` of the table and the indices. -/
theorem take_ops (V : Valuation τ sig (Elt Ideal)) : (after hostOps0 V (Proc.devRef .tc main_v0) : FVec Ideal S1024x50x128 .f32)
    = rTake (V (Proc.devRef .tc main_arg1)) (V (Proc.devRef .tc main_arg0)) := by
  after_reads_simp
  simp only [TRef.ofBuf_toBuf]
  simp -implicitDefEqProofs only [TRef.toBuf, TRef.ofBuf, cast_eq]
  unfold rTake rMask rMask3 rIdx3 rIdx
  rfl

/-- The sequence on entry: the lookup with time in front. -/
theorem entry_x : rX (rE m c) = transpose S50x1024x128 [1, 0, 2]
    (rTake (m ((c.tc : Thread nD τ).loc main_arg1)) (m ((c.tc : Thread nD τ).loc main_arg0))) transposes_S1024x50x128_S50x1024x128_1_0_2 := by
  show afterL preI (launchContents m c) (Proc.devRef .tc main_v4_0) = _
  simp only [preI, afterL_cons, afterL_nil]
  have e : after hostOps0_1 (after hostOps0 (launchContents m c)) (Proc.devRef .tc main_v4_0)
      = transpose S50x1024x128 [1, 0, 2] (after hostOps0 (launchContents m c) (Proc.devRef .tc main_v0) : FVec Ideal S1024x50x128 .f32) transposes_S1024x50x128_S50x1024x128_1_0_2 := by
    generalize after hostOps0 (launchContents m c) = W
    after_reads_simp
    rfl
  rw [e, take_ops]

/-- The weights and biases on entry are the arguments. -/
theorem entry_wi : rWi (rE m c) = m ((c.tc : Thread nD τ).loc main_arg2) := by
  show afterL preI (launchContents m c) (Proc.devRef .tc main_v4_1) = _
  simp only [preI, afterL_cons, afterL_nil]
  after_reads_simp
  rfl
/-- The hidden weights. -/
theorem entry_wh : rWh (rE m c) = m ((c.tc : Thread nD τ).loc main_arg3) := by
  show afterL preI (launchContents m c) (Proc.devRef .tc main_v4_2) = _
  simp only [preI, afterL_cons, afterL_nil]
  after_reads_simp
  rfl
/-- The first bias. -/
theorem entry_b1 : rB1 (rE m c) = m ((c.tc : Thread nD τ).loc main_arg4) := by
  show afterL preI (launchContents m c) (Proc.devRef .tc main_v4_3) = _
  simp only [preI, afterL_cons, afterL_nil]
  after_reads_simp
  rfl
/-- The second bias. -/
theorem entry_b2 : rB2 (rE m c) = m ((c.tc : Thread nD τ).loc main_arg5) := by
  show afterL preI (launchContents m c) (Proc.devRef .tc main_v4_4) = _
  simp only [preI, afterL_cons, afterL_nil]
  after_reads_simp
  rfl
/-- The hidden state on entry is zero. -/
theorem entry_h : rH (rE m c) = fun _ => (0 : EReal) := by
  have e : rH (rE m c) = (broadcastInDim S1024x512 ![] bcast_S_S1024x512 (constant S_ .f32 0x00000000#32) : FVec Ideal S1024x512 .f32) := by
    show afterL preI (launchContents m c) (Proc.devRef .tc main_v4_6) = _
    simp only [preI, afterL_cons, afterL_nil]
    after_reads_simp
    rfl
  rw [e]
  exact funext fun _ => Ideal.ofBits_zero_f32
/-- The cell state on entry is zero. -/
theorem entry_c : rC (rE m c) = fun _ => (0 : EReal) := by
  have e : rC (rE m c) = (broadcastInDim S1024x512 ![] bcast_S_S1024x512 (constant S_ .f32 0x00000000#32) : FVec Ideal S1024x512 .f32) := by
    show afterL preI (launchContents m c) (Proc.devRef .tc main_v4_7) = _
    simp only [preI, afterL_cons, afterL_nil]
    after_reads_simp
    rfl
  rw [e]
  exact funext fun _ => Ideal.ofBits_zero_f32

/-! ## The trips -/

variable (V : Valuation τ sig (Elt Ideal))

/-- Trips keep the sequence. -/
theorem it_x (n : ℕ) : rX (STEP^[n] V) = rX V := by
  induction n with
  | zero => rfl
  | succ n ih => rw [Function.iterate_succ_apply']; exact (STEP_main_v4_0 _).trans ih
/-- Trips keep the input weights. -/
theorem it_wi (n : ℕ) : rWi (STEP^[n] V) = rWi V := by
  induction n with
  | zero => rfl
  | succ n ih => rw [Function.iterate_succ_apply']; exact (STEP_main_v4_1 _).trans ih
/-- Trips keep the hidden weights. -/
theorem it_wh (n : ℕ) : rWh (STEP^[n] V) = rWh V := by
  induction n with
  | zero => rfl
  | succ n ih => rw [Function.iterate_succ_apply']; exact (STEP_main_v4_2 _).trans ih
/-- Trips keep the first bias. -/
theorem it_b1 (n : ℕ) : rB1 (STEP^[n] V) = rB1 V := by
  induction n with
  | zero => rfl
  | succ n ih => rw [Function.iterate_succ_apply']; exact (STEP_main_v4_3 _).trans ih
/-- Trips keep the second bias. -/
theorem it_b2 (n : ℕ) : rB2 (STEP^[n] V) = rB2 V := by
  induction n with
  | zero => rfl
  | succ n ih => rw [Function.iterate_succ_apply']; exact (STEP_main_v4_4 _).trans ih

/-- Before trip `n` the counter is `n`. -/
theorem it_ctr (n : ℕ) : (STEP^[n] (rE m c)) (Proc.devRef .tc main_v4_5) = fun _ => BitVec.ofNat 32 n := by
  induction n with
  | zero => exact ctr_entry m c
  | succ n ih =>
    rw [Function.iterate_succ_apply', STEP_main_v4_5]
    unfold step_main_v4_5
    rw [ih]
    refine funext fun _ => ?_
    show BitVec.ofNat 32 n + 1#32 = BitVec.ofNat 32 (n + 1)
    rw [BitVec.ofNat_add]

end Cert.Proof.Value

end
-- ==== Proof.Value.Algebraic.lean ====
/-
  The kernel's result is the reference's: step by step the two states agree, and so do the classifier's three columns.
-/
module

public import proofs.«01_k».proof.Proof.Value.Inputs
public import proofs.«01_k».proof.Proof.Value.RefEntry

@[expose] public section

noncomputable section

namespace Cert.Proof.Value

open Idealize.ShloMosaic Idealize.ShloMosaic.TcCoe
open Cert.Proof.KI (xAt Stt lstmOut lstmRes V3 cNext hNext)
open scoped BigOperators

/-- The kernel's classifier at an entry. -/
theorem classify (h : FVec Ideal Cert.KernelIdeal.S1024x512 .bf16) (wc : FVec Ideal Cert.KernelIdeal.S512x128 .bf16) (bc : FVec Ideal Cert.KernelIdeal.S1x128 .f32)
    (r : Fin 1024) (o : Fin 128) : (Cert.KernelIdeal.Gen.k1_pay4 (F := Ideal) h wc bc (ix2 r o) : EReal) = (∑ k : Fin 512, h (ix2 r k) * wc (ix2 k o)) + bc (ix2 0 o) := by
  unfold Cert.KernelIdeal.Gen.k1_pay4
  simp only [pointwise]
  exact congrArg (· + _) (zero_add _)

/-- The reference's classifier at an entry. -/
theorem ref_out (V : Valuation Cert.ReferenceIdeal.τ Cert.ReferenceIdeal.sig (Elt Ideal)) (r : Fin 1024) (o : Fin 3) :
    ((Cert.ReferenceIdeal.Value.out_main_v9 V : FVec Ideal Cert.ReferenceIdeal.S1024x3 .f32) (ix2 r o) : EReal)
      = (∑ k : Fin 512, rH V (ix2 r k) * (V (Proc.devRef .tc Cert.ReferenceIdeal.main_arg6) : FVec Ideal Cert.ReferenceIdeal.S3x512 .f32) (ix2 o k))
        + (V (Proc.devRef .tc Cert.ReferenceIdeal.main_arg7) : FVec Ideal Cert.ReferenceIdeal.S3 .f32) (ix1 o) := by
  unfold Cert.ReferenceIdeal.Value.out_main_v9
  simp only [pointwise]
  exact congrArg (· + _) (zero_add _)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two launches hold the same arguments. -/
structure Same : Prop where
  a0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)
  a1 : m' ((c : Thread Cert.ReferenceIdeal.nD Cert.ReferenceIdeal.τ).loc Cert.ReferenceIdeal.main_arg1) = m ((c : Thread Cert.KernelIdeal.nD Cert.KernelIdeal.τ).loc Cert.KernelIdeal.main_arg1)
  a2 : m' ((c : Thread Cert.ReferenceIdeal.nD Cert.ReferenceIdeal.τ).loc Cert.ReferenceIdeal.main_arg2) = m ((c : Thread Cert.KernelIdeal.nD Cert.KernelIdeal.τ).loc Cert.KernelIdeal.main_arg2)
  a3 : m' ((c : Thread Cert.ReferenceIdeal.nD Cert.ReferenceIdeal.τ).loc Cert.ReferenceIdeal.main_arg3) = m ((c : Thread Cert.KernelIdeal.nD Cert.KernelIdeal.τ).loc Cert.KernelIdeal.main_arg3)
  a4 : m' ((c : Thread Cert.ReferenceIdeal.nD Cert.ReferenceIdeal.τ).loc Cert.ReferenceIdeal.main_arg4) = m ((c : Thread Cert.KernelIdeal.nD Cert.KernelIdeal.τ).loc Cert.KernelIdeal.main_arg4)
  a5 : m' ((c : Thread Cert.ReferenceIdeal.nD Cert.ReferenceIdeal.τ).loc Cert.ReferenceIdeal.main_arg5) = m ((c : Thread Cert.KernelIdeal.nD Cert.KernelIdeal.τ).loc Cert.KernelIdeal.main_arg5)
  a6 : m' ((c : Thread Cert.ReferenceIdeal.nD Cert.ReferenceIdeal.τ).loc Cert.ReferenceIdeal.main_arg6) = m ((c : Thread Cert.KernelIdeal.nD Cert.KernelIdeal.τ).loc Cert.KernelIdeal.main_arg6)
  a7 : m' ((c : Thread Cert.ReferenceIdeal.nD Cert.ReferenceIdeal.τ).loc Cert.ReferenceIdeal.main_arg7) = m ((c : Thread Cert.KernelIdeal.nD Cert.KernelIdeal.τ).loc Cert.KernelIdeal.main_arg7)
  rows : ∀ j, ((m ((c : Thread Cert.KernelIdeal.nD Cert.KernelIdeal.τ).loc Cert.KernelIdeal.main_arg0) : IVec Cert.KernelIdeal.S1024x50 32) j).toNat < 100000

/-- The LSTM call's sequence. -/
abbrev kX : FVec Ideal Cert.KernelIdeal.S50x1024x128 .f32 := V3 m c (Proc.devRef .tc Cert.KernelIdeal.main_v4)
/-- Its joined weights. -/
abbrev kW : FVec Ideal Cert.KernelIdeal.S640x2048 .bf16 := V3 m c (Proc.devRef .tc Cert.KernelIdeal.main_v18)
/-- Its bias row. -/
abbrev kB : FVec Ideal Cert.KernelIdeal.S1x2048 .f32 := V3 m c (Proc.devRef .tc Cert.KernelIdeal.main_v9)
/-- Its state before step `n`. -/
abbrev kS (n : ℕ) : FVec Ideal Cert.KernelIdeal.S1024x512 .bf16 × FVec Ideal Cert.KernelIdeal.S1024x512 .f32 := Stt (kX m c) (kW m c) (kB m c) n

variable (hs : Same m m' c)
include hs

/-- The kernel's sequence is the one the reference's loop carries. -/
theorem seq_eq (n : ℕ) (hn : n < 50) (r : Fin 1024) (k : Fin 128) :
    (xAt (kX m c) n (ix3 0 r k) : EReal) = rX (rE m' c) (ix3 ⟨n, hn⟩ r k) := by
  have e : (Fin.ofNat 50 n : Fin 50) = ⟨n, hn⟩ := Fin.ext (Nat.mod_eq_of_lt hn)
  show (kX m c (ix3 (Fin.ofNat 50 n) r k) : EReal) = _
  rw [e]
  refine (x_row m c ⟨n, hn⟩ r k).trans ?_
  rw [ entry_x, hs.a0, hs.a1]
  simp only [pointwise]
  exact (rTake_apply _ _ hs.rows r ⟨n, hn⟩ k).symm

/-- Before step `n` the two programs hold the same hidden and cell states. -/
theorem states (n : ℕ) (hn : n ≤ 50) :
    ((kS m c n).1 : Cert.KernelIdeal.S1024x512.Idx → EReal) = rH (Cert.ReferenceIdeal.Value.STEP^[n] (rE m' c))
    ∧ ((kS m c n).2 : Cert.KernelIdeal.S1024x512.Idx → EReal) = rC (Cert.ReferenceIdeal.Value.STEP^[n] (rE m' c)) := by
  induction n with
  | zero =>
    refine ⟨Eq.trans ?_ (entry_h m' c).symm, Eq.trans ?_ (entry_c m' c).symm⟩
    · exact funext fun _ => Ideal.ofBits_zero_bf16
    · exact funext fun _ => Ideal.ofBits_zero_f32
  | succ n ih =>
    obtain ⟨ih1, ih2⟩ := ih (by omega)
    have kg : kgate (xAt (kX m c) n) (kW m c) (kB m c) (kS m c n)
        = fun r g => (Cert.ReferenceIdeal.Value.res_main_while0b_v21 (Cert.ReferenceIdeal.Value.STEP^[n] (rE m' c)) : FVec Ideal Cert.ReferenceIdeal.S1024x2048 .f32) (ix2 r g) := by
      refine funext fun r => funext fun g => ?_
      rw [kgate_eq _ _ _ _ (aWi m c) (aWh m c) (aB1 m c) (aB2 m c) (w_left m c) (w_right m c) (b_row m c), ih1,
        ref_gates _ ⟨n, by omega⟩ (it_ctr m' c n), it_x, it_wi, it_wh, it_b1, it_b2, entry_wi, entry_wh, entry_b1, entry_b2, hs.a2, hs.a3, hs.a4, hs.a5]
      exact congrArg (fun x => gates x _ _ _ _ _ r g) (funext fun r => funext fun k => seq_eq m m' c hs n (by omega) r k)
    rw [Function.iterate_succ_apply']
    refine ⟨funext fun i => ?_, funext fun i => ?_⟩
    · rw [ValueIdx.eq_ix2 i]
      refine (hNext_apply _ _ _ _ (i 0) (i 1)).trans (Eq.trans ?_ ((congrFun (Cert.ReferenceIdeal.Value.STEP_main_v4_6 _) _).trans (ref_h _ (i 0) (i 1))).symm)
      rw [kg, ih2]
    · rw [ValueIdx.eq_ix2 i]
      refine (cNext_apply _ _ _ _ (i 0) (i 1)).trans (Eq.trans ?_ ((congrFun (Cert.ReferenceIdeal.Value.STEP_main_v4_7 _) _).trans (ref_c _ (i 0) (i 1))).symm)
      rw [kg, ih2]

/-- The kernel's result is the reference's. -/
theorem result_eq : (extractStridedSlice Cert.KernelIdeal.S1024x3 ![0, 0] (lstmRes m c : FVec Ideal Cert.KernelIdeal.S1024x128 .f32) Cert.KernelIdeal.Gen.slices_S1024x128_S1024x3_0_0 : FVec Ideal Cert.KernelIdeal.S1024x3 .f32)
    = Cert.ReferenceIdeal.Value.out_main_v9 (Cert.ReferenceIdeal.Value.STEP^[50] (rE m' c)) := by
  refine funext fun i => ?_
  rw [ValueIdx.eq_ix2 i]
  generalize i 0 = r
  generalize i 1 = o
  have e1 : (extractStridedSlice Cert.KernelIdeal.S1024x3 ![0, 0] (lstmRes m c : FVec Ideal Cert.KernelIdeal.S1024x128 .f32) Cert.KernelIdeal.Gen.slices_S1024x128_S1024x3_0_0 (ix2 r o) : EReal)
      = (lstmRes m c : FVec Ideal Cert.KernelIdeal.S1024x128 .f32) (ix2 r (Fin.castLE (by decide) o)) :=
    congrArg (lstmRes m c) (funext fun a => match a with | 0 => Fin.ext (Nat.zero_add _) | 1 => Fin.ext (Nat.zero_add _))
  refine e1.trans ((classify _ _ _ r _).trans (Eq.trans ?_ (ref_out _ r o).symm))
  rw [Cert.ReferenceIdeal.Value.iter_main_arg6, Cert.ReferenceIdeal.Value.iter_main_arg7, hs.a6, hs.a7]
  refine congrArg₂ (· + ·) (Finset.sum_congr rfl fun k _ => congrArg₂ (· * ·) (congrFun (states m m' c hs 50 le_rfl).1 _) (wc_col m c k o)) (bc_col m c o)

end
end Cert.Proof.Value

end
-- ==== Proof.Value.Claim.lean ====
/-
  The value claim: run at extended reals from the same arguments, the kernel and the reference leave the same result.
-/
module

public import proofs.«01_k».proof.Proof.Frames
public import proofs.«01_k».proof.Proof.Value.Algebraic

@[expose] public section

noncomputable section

namespace Cert.Proof

open Idealize.ShloMosaic Idealize.SL.Sem

attribute [local instance] Cert.Kernel.Gen.facts Cert.KernelIdeal.Gen.facts Cert.ReferenceIdeal.Gen.facts Cert.Pre_in_range.Gen.facts

/-- The kernel's result is the reference's, at extended reals, with every index a row of the table. -/
theorem algebraic : Cert.algebraic_KernelIdeal_ReferenceIdeal := fun m ρ m' ρ' hpre hargs => by
  have hs : ∀ c, Value.Same m m' c := fun c => by
    obtain ⟨h0, h1, h2, h3, h4, h5, h6, h7⟩ := hargs c
    exact ⟨h0, h1, h2, h3, h4, h5, h6, h7, fun j => Range.of_fn _ _ _ _ _ _ _ _ (hpre c) j⟩
  refine ⟨fun c => extractStridedSlice Cert.KernelIdeal.S1024x3 ![0, 0] (KI.lstmRes m c) Cert.KernelIdeal.Gen.slices_S1024x128_S1024x3_0_0,
    (θ_run Cert.KernelIdeal.defs _ _).mono (fun _ h => h.1) (KI.run_args (F := Ideal) m ρ (ideal_ok m hpre)),
    (θ_run Cert.ReferenceIdeal.defs _ _).mono (fun r h c => ⟨(h c).1.trans (Value.result_eq m m' c (hs c)).symm, (h c).2⟩)
      (Cert.ReferenceIdeal.Value.run (F := Ideal) m' ρ')⟩

end Cert.Proof

end
-- ==== Proof.lean ====
/-
  The claims, put together from the modules under Proof/.
-/
module

public import proofs.«01_k».proof.Defs
public import proofs.«01_k».proof.Proof.Value.Claim

@[expose] public section

noncomputable section

namespace Cert.Proof

open Idealize.ShloMosaic Idealize.SL.Sem

/-- The claims, under the generated witnesses of the programs' side conditions. -/
theorem claim : Cert.Claim := ⟨Cert.Kernel.Gen.facts, Cert.KernelIdeal.Gen.facts, Cert.ReferenceIdeal.Gen.facts, Cert.Pre_in_range.Gen.facts,
  frame_kernel, frame_ideal, frame_reference, frame_reference_in_range, trivial, algebraic⟩

end Cert.Proof

end
